-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_closed [hPre_closed : Cert.Pre_closed.Facts] (m : (ℓ : Loc Cert.KernelIdeal.nD Cert.KernelIdeal.τ Cert.KernelIdeal.sig) → Buf (Elt Ideal) ℓ) : Prop :=
  ∀ c : Dev Cert.KernelIdeal.nD,
    (Cert.Pre_closed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_closed [hPre_closed : Cert.Pre_closed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_closed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_closed [hKernelIdeal : Cert.KernelIdeal.Facts] [hPre_closed : Cert.Pre_closed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_closed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_closed [hReferenceIdeal : Cert.ReferenceIdeal.Facts] [hPre_closed : Cert.Pre_closed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_closed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def preserves_Kernel_KernelIdeal : Prop :=
  IdealRules.named_const.Statement Cert.KernelIdeal.κ "mask" .f32 0xCE6E6B28#32 ⊥
  ∧ IdealRules.named_const.Statement Cert.KernelIdeal.κ "start" .f32 0xF149F2CA#32 ⊥

def algebraic_KernelIdeal_ReferenceIdeal_pre_closed [hKernelIdeal : Cert.KernelIdeal.Facts] [hReferenceIdeal : Cert.ReferenceIdeal.Facts] [hPre_closed : Cert.Pre_closed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_closed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v4)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v4) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v18) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hPre_closed : Cert.Pre_closed.Facts),
    quiescent_Kernel (hKernel := hKernel)
    ∧ quiescent_KernelIdeal (hKernelIdeal := hKernelIdeal)
    ∧ quiescent_KernelIdeal_pre_closed (hKernelIdeal := hKernelIdeal) (hPre_closed := hPre_closed)
    ∧ quiescent_ReferenceIdeal (hReferenceIdeal := hReferenceIdeal)
    ∧ quiescent_ReferenceIdeal_pre_closed (hReferenceIdeal := hReferenceIdeal) (hPre_closed := hPre_closed)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ preserves_Kernel_KernelIdeal
    ∧ algebraic_KernelIdeal_ReferenceIdeal_pre_closed (hKernelIdeal := hKernelIdeal) (hReferenceIdeal := hReferenceIdeal) (hPre_closed := hPre_closed)
    ∧ preserves_KernelFfn_KernelFfnIdeal
    ∧ algebraic_KernelFfnIdeal_ReferenceFfnIdeal (hKernelFfnIdeal := hKernelFfnIdeal) (hReferenceFfnIdeal := hReferenceFfnIdeal)
-- ==== Pre_closed.lean ====
abbrev S2x8192x4x4x64 : Shape := ⟨5, ![2, 8192, 4, 4, 64]⟩
abbrev S2x512x4x64 : Shape := ⟨4, ![2, 512, 4, 64]⟩
abbrev S2x8192x4x64 : Shape := ⟨4, ![2, 8192, 4, 64]⟩
abbrev S2x8192x4x4x3 : Shape := ⟨5, ![2, 8192, 4, 4, 3]⟩
abbrev S_ : Shape := ⟨0, ![]⟩
abbrev S2x8192x4x4x1 : Shape := ⟨5, ![2, 8192, 4, 4, 1]⟩
abbrev S2x8192x4x4 : Shape := ⟨4, ![2, 8192, 4, 4]⟩

class Facts : Prop where
  bcast_S_S2x8192x4x4x64 : S_.BroadcastsInDim S2x8192x4x4x64 (![] : Fin 0 → Fin S2x8192x4x4x64.rank)
  reducesTo_S2x8192x4x4x64_S_d0_1_2_3_4 : S2x8192x4x4x64.ReducesTo [0, 1, 2, 3, 4] S_
  h_S_ : 0 < S_.numel
  bcast_S_S2x512x4x64 : S_.BroadcastsInDim S2x512x4x64 (![] : Fin 0 → Fin S2x512x4x64.rank)
  reducesTo_S2x512x4x64_S_d0_1_2_3 : S2x512x4x64.ReducesTo [0, 1, 2, 3] S_
  bcast_S_S2x8192x4x64 : S_.BroadcastsInDim S2x8192x4x64 (![] : Fin 0 → Fin S2x8192x4x64.rank)
  reducesTo_S2x8192x4x64_S_d0_1_2_3 : S2x8192x4x64.ReducesTo [0, 1, 2, 3] S_
  slices_S2x8192x4x4x3_S2x8192x4x4x1_0_0_0_0_1 : S2x8192x4x4x3.Slices ![0, 0, 0, 0, 1] S2x8192x4x4x1
  shapeCasts_S2x8192x4x4x1_S2x8192x4x4 : S2x8192x4x4x1.ShapeCasts S2x8192x4x4
  bcast_S_S2x8192x4x4 : S_.BroadcastsInDim S2x8192x4x4 (![] : Fin 0 → Fin S2x8192x4x4.rank)
  reducesTo_S2x8192x4x4_S_d0_1_2_3 : S2x8192x4x4.ReducesTo [0, 1, 2, 3] S_

variable [Facts]

def fn_part1 {F : FTy → Type} [FloatOps F] (main_v13 : IVec S_ 1) (main_v15 : FVec F S2x8192x4x4 .f32) (main_v16 : FVec F S2x8192x4x4 .f32) : IVec S_ 1 :=
  let main_v17 : IVec S2x8192x4x4 1 := cmpf .oeq main_v15 main_v16
  let main_c_5 : IVec S_ 1 := constantI S_ 1 1#1
  let main_v18 : IVec S_ 1 := (fun x v => Host.reduce IntOp.andi x v reducesTo_S2x8192x4x4_S_d0_1_2_3 h_S_) main_v17 main_c_5
  let main_v19 : IVec S_ 1 := andi main_v13 main_v18
  main_v19

def fn {F : FTy → Type} [FloatOps F] (main_arg0 : FVec F S2x8192x4x4x64 .f32) (main_arg1 : FVec F S2x512x4x64 .f32) (main_arg2 : FVec F S2x512x4x64 .f32) (main_arg3 : FVec F S2x8192x4x64 .f32) (main_arg4 : FVec F S2x8192x4x64 .f32) (main_arg5 : FVec F S2x8192x4x64 .f32) (main_arg6 : FVec F S2x8192x4x64 .f32) (main_arg7 : FVec F S2x8192x4x4x3 .f32) : IVec S_ 1 :=
  let main_v0 : FVec F S2x8192x4x4x64 .f32 := Host.absf main_arg0
  let main_cst : FVec F S_ .f32 := constant S_ .f32 0x7F800000#32
  let main_v1 : FVec F S2x8192x4x4x64 .f32 := broadcastInDim S2x8192x4x4x64 ![] bcast_S_S2x8192x4x4x64 main_cst
  let main_v2 : IVec S2x8192x4x4x64 1 := cmpf .olt main_v0 main_v1
  let main_c : IVec S_ 1 := constantI S_ 1 1#1
  let main_v3 : IVec S_ 1 := (fun x v => Host.reduce IntOp.andi x v reducesTo_S2x8192x4x4x64_S_d0_1_2_3_4 h_S_) main_v2 main_c
  let main_v4 : FVec F S2x512x4x64 .f32 := Host.absf main_arg1
  let main_cst_0 : FVec F S_ .f32 := constant S_ .f32 0x7F800000#32
  let main_v5 : FVec F S2x512x4x64 .f32 := broadcastInDim S2x512x4x64 ![] bcast_S_S2x512x4x64 main_cst_0
  let main_v6 : IVec S2x512x4x64 1 := cmpf .olt main_v4 main_v5
  let main_c_1 : IVec S_ 1 := constantI S_ 1 1#1
  let main_v7 : IVec S_ 1 := (fun x v => Host.reduce IntOp.andi x v reducesTo_S2x512x4x64_S_d0_1_2_3 h_S_) main_v6 main_c_1
  let main_v8 : IVec S_ 1 := andi main_v3 main_v7
  let main_v9 : FVec F S2x8192x4x64 .f32 := Host.absf main_arg5
  let main_cst_2 : FVec F S_ .f32 := constant S_ .f32 0x7F800000#32
  let main_v10 : FVec F S2x8192x4x64 .f32 := broadcastInDim S2x8192x4x64 ![] bcast_S_S2x8192x4x64 main_cst_2
  let main_v11 : IVec S2x8192x4x64 1 := cmpf .olt main_v9 main_v10
  let main_c_3 : IVec S_ 1 := constantI S_ 1 1#1
  let main_v12 : IVec S_ 1 := (fun x v => Host.reduce IntOp.andi x v reducesTo_S2x8192x4x64_S_d0_1_2_3 h_S_) main_v11 main_c_3
  let main_v13 : IVec S_ 1 := andi main_v8 main_v12
  let main_v14 : FVec F S2x8192x4x4x1 .f32 := (extractStridedSlice S2x8192x4x4x1 ![0, 0, 0, 0, 1] · slices_S2x8192x4x4x3_S2x8192x4x4x1_0_0_0_0_1) main_arg7
  let main_v15 : FVec F S2x8192x4x4 .f32 := shapeCast S2x8192x4x4 main_v14 shapeCasts_S2x8192x4x4x1_S2x8192x4x4
  let main_cst_4 : FVec F S_ .f32 := constant S_ .f32 0xFF800000#32
  let main_v16 : FVec F S2x8192x4x4 .f32 := broadcastInDim S2x8192x4x4 ![] bcast_S_S2x8192x4x4 main_cst_4
  fn_part1 (F := F) main_v13 main_v15 main_v16
-- ==== Kernel.lean ====
abbrev S2x8192x4x4x64 : Shape := ⟨5, ![2, 8192, 4, 4, 64]⟩
abbrev S2x512x4x64 : Shape := ⟨4, ![2, 512, 4, 64]⟩
abbrev S2x8192x4x64 : Shape := ⟨4, ![2, 8192, 4, 64]⟩
abbrev S2x8192x4x4x3 : Shape := ⟨5, ![2, 8192, 4, 4, 3]⟩
abbrev S_ : Shape := ⟨0, ![]⟩
abbrev S2x8192x16x64 : Shape := ⟨4, ![2, 8192, 16, 64]⟩
abbrev S2x16x64x8192 : Shape := ⟨4, ![2, 16, 64, 8192]⟩
abbrev S2x4x512x64 : Shape := ⟨4, ![2, 4, 512, 64]⟩
abbrev S2x4x64x512 : Shape := ⟨4, ![2, 4, 64, 512]⟩
abbrev S8192 : Shape := ⟨1, ![8192]⟩
abbrev S8192x1 : Shape := ⟨2, ![8192, 1]⟩
abbrev S128 : Shape := ⟨1, ![128]⟩
abbrev S1x128 : Shape := ⟨2, ![1, 128]⟩
abbrev S8192x128 : Shape := ⟨2, ![8192, 128]⟩
abbrev S1x1x8192x128 : Shape := ⟨4, ![1, 1, 8192, 128]⟩
abbrev S2x4x8192x128 : Shape := ⟨4, ![2, 4, 8192, 128]⟩
abbrev S2x4x8192x64 : Shape := ⟨4, ![2, 4, 8192, 64]⟩
abbrev S2x2x2x8192x64 : Shape := ⟨5, ![2, 2, 2, 8192, 64]⟩
abbrev S2x4x8192x256 : Shape := ⟨4, ![2, 4, 8192, 256]⟩
abbrev S2x8192x4x12 : Shape := ⟨4, ![2, 8192, 4, 12]⟩
abbrev S2x8192x4x16 : Shape := ⟨4, ![2, 8192, 4, 16]⟩
abbrev S2x64x128x4x64 : Shape := ⟨5, ![2, 64, 128, 4, 64]⟩
abbrev S2x4x64x64x128 : Shape := ⟨5, ![2, 4, 64, 64, 128]⟩
abbrev S2x4x16x8192 : Shape := ⟨4, ![2, 4, 16, 8192]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S1024 : Shape := ⟨1, ![1024]⟩
abbrev S1x1024x1 : Shape := ⟨3, ![1, 1024, 1]⟩
abbrev S1x1x512 : Shape := ⟨3, ![1, 1, 512]⟩
abbrev S1x1024x512 : Shape := ⟨3, ![1, 1024, 512]⟩
abbrev S2 : Shape := ⟨1, ![2]⟩
abbrev S2x1x1 : Shape := ⟨3, ![2, 1, 1]⟩
abbrev S2x1024x512 : Shape := ⟨3, ![2, 1024, 512]⟩
abbrev S1x512x1 : Shape := ⟨3, ![1, 512, 1]⟩
abbrev S1x512x512 : Shape := ⟨3, ![1, 512, 512]⟩
abbrev S1 : Shape := ⟨1, ![1]⟩
abbrev S1x1x1 : Shape := ⟨3, ![1, 1, 1]⟩
abbrev S2x8192x1024 : Shape := ⟨3, ![2, 8192, 1024]⟩
abbrev S1x4x64x512 : Shape := ⟨4, ![1, 4, 64, 512]⟩
abbrev S1x1x512x64 : Shape := ⟨4, ![1, 1, 512, 64]⟩
abbrev S1x1x64x512 : Shape := ⟨4, ![1, 1, 64, 512]⟩
abbrev S1x1x8192x256 : Shape := ⟨4, ![1, 1, 8192, 256]⟩
abbrev S1x1x64x64x128 : Shape := ⟨5, ![1, 1, 64, 64, 128]⟩
abbrev S1x1x8192x64 : Shape := ⟨4, ![1, 1, 8192, 64]⟩
abbrev S1x1x16x512 : Shape := ⟨4, ![1, 1, 16, 512]⟩
abbrev S1x512x256 : Shape := ⟨3, ![1, 512, 256]⟩
abbrev S512x2048 : Shape := ⟨2, ![512, 2048]⟩
abbrev S64x512 : Shape := ⟨2, ![64, 512]⟩
abbrev S64x2048 : Shape := ⟨2, ![64, 2048]⟩
abbrev S1x2048 : Shape := ⟨2, ![1, 2048]⟩
abbrev S512x64 : Shape := ⟨2, ![512, 64]⟩
abbrev S2048 : Shape := ⟨1, ![2048]⟩
abbrev S512x512 : Shape := ⟨2, ![512, 512]⟩
abbrev S1x512 : Shape := ⟨2, ![1, 512]⟩
abbrev S128x2048 : Shape := ⟨2, ![128, 2048]⟩
abbrev S256x2048 : Shape := ⟨2, ![256, 2048]⟩
abbrev S80x2048 : Shape := ⟨2, ![80, 2048]⟩
abbrev S1x1x512x256 : Shape := ⟨4, ![1, 1, 512, 256]⟩
abbrev S512x256 : Shape := ⟨2, ![512, 256]⟩
abbrev S1x1x1x64x128 : Shape := ⟨5, ![1, 1, 1, 64, 128]⟩
abbrev S64x128 : Shape := ⟨2, ![64, 128]⟩
abbrev S16x512 : Shape := ⟨2, ![16, 512]⟩
abbrev S80x512 : Shape := ⟨2, ![80, 512]⟩
abbrev S1024x512 : Shape := ⟨2, ![1024, 512]⟩
abbrev S1x1x1024x64 : Shape := ⟨4, ![1, 1, 1024, 64]⟩
abbrev S1024x64 : Shape := ⟨2, ![1024, 64]⟩
abbrev S1024x2048 : Shape := ⟨2, ![1024, 2048]⟩
abbrev S64x1024 : Shape := ⟨2, ![64, 1024]⟩
abbrev S16x1024 : Shape := ⟨2, ![16, 1024]⟩
abbrev S80x1024 : Shape := ⟨2, ![80, 1024]⟩
abbrev S256x512 : Shape := ⟨2, ![256, 512]⟩

abbrev nBuf : Space → Nat
  | .hbm => 147
  | .vmem => 23
  | .smem => 0
  | _ => 0

abbrev hbmTy0_0 (i : Nat) : BufTy := match i % 128 with
  | 0 => ⟨S2x8192x4x4x64, .f32⟩
  | 1 => ⟨S2x512x4x64, .f32⟩
  | 2 => ⟨S2x512x4x64, .f32⟩
  | 3 => ⟨S2x8192x4x64, .f32⟩
  | 4 => ⟨S2x8192x4x64, .f32⟩
  | 5 => ⟨S2x8192x4x64, .f32⟩
  | 6 => ⟨S2x8192x4x64, .f32⟩
  | 7 => ⟨S2x8192x4x4x3, .f32⟩
  | 8 => ⟨S_, .f32⟩
  | 9 => ⟨S_, .f32⟩
  | 10 => ⟨S_, .f32⟩
  | 11 => ⟨S_, .f32⟩
  | 12 => ⟨S_, .f32⟩
  | 13 => ⟨S2x8192x4x4x64, .f32⟩
  | 14 => ⟨S2x8192x4x4x64, .f32⟩
  | 15 => ⟨S2x8192x16x64, .f32⟩
  | 16 => ⟨S2x16x64x8192, .f32⟩
  | 17 => ⟨S2x16x64x8192, .bf16⟩
  | 18 => ⟨S2x4x512x64, .f32⟩
  | 19 => ⟨S2x4x512x64, .bf16⟩
  | 20 => ⟨S2x4x64x512, .f32⟩
  | 21 => ⟨S2x4x64x512, .bf16⟩
  | 22 => ⟨S8192, .i32⟩
  | 23 => ⟨S8192x1, .i32⟩
  | 24 => ⟨S_, .i32⟩
  | 25 => ⟨S_, .i32⟩
  | 26 => ⟨S8192x1, .i32⟩
  | 27 => ⟨S8192x1, .i32⟩
  | 28 => ⟨S8192x1, .i32⟩
  | 29 => ⟨S_, .i32⟩
  | 30 => ⟨S8192x1, .i32⟩
  | 31 => ⟨S8192x1, .i1⟩
  | 32 => ⟨S8192x1, .i32⟩
  | 33 => ⟨S8192x1, .i32⟩
  | 34 => ⟨S_, .i32⟩
  | 35 => ⟨S8192x1, .i32⟩
  | 36 => ⟨S8192x1, .i1⟩
  | 37 => ⟨S8192x1, .i1⟩
  | 38 => ⟨S_, .i32⟩
  | 39 => ⟨S8192x1, .i32⟩
  | 40 => ⟨S8192x1, .i32⟩
  | 41 => ⟨S8192x1, .i32⟩
  | 42 => ⟨S128, .i32⟩
  | 43 => ⟨S1x128, .i32⟩
  | 44 => ⟨S8192x128, .i32⟩
  | 45 => ⟨S8192x128, .i32⟩
  | 46 => ⟨S8192x128, .i1⟩
  | 47 => ⟨S8192x128, .bf16⟩
  | 48 => ⟨S1x1x8192x128, .bf16⟩
  | 49 => ⟨S2x4x8192x128, .bf16⟩
  | 50 => ⟨S2x8192x4x64, .bf16⟩
  | 51 => ⟨S2x4x8192x64, .bf16⟩
  | 52 => ⟨S2x2x2x8192x64, .bf16⟩
  | 53 => ⟨S2x2x2x8192x64, .bf16⟩
  | 54 => ⟨S2x4x8192x64, .bf16⟩
  | 55 => ⟨S2x4x8192x256, .bf16⟩
  | 56 => ⟨S2x8192x4x12, .f32⟩
  | 57 => ⟨S_, .i32⟩
  | 58 => ⟨S_, .f32⟩
  | 59 => ⟨S2x8192x4x16, .f32⟩
  | 60 => ⟨S2x64x128x4x64, .f32⟩
  | 61 => ⟨S2x4x64x64x128, .f32⟩
  | 62 => ⟨S2x4x64x64x128, .bf16⟩
  | 63 => ⟨S2x4x8192x64, .f32⟩
  | 64 => ⟨S2x4x8192x64, .bf16⟩
  | 65 => ⟨S2x64x128x4x64, .f32⟩
  | 66 => ⟨S2x4x64x64x128, .f32⟩
  | 67 => ⟨S2x4x64x64x128, .bf16⟩
  | 68 => ⟨S2x4x16x8192, .f32⟩
  | 69 => ⟨S512, .i32⟩
  | 70 => ⟨S512x1, .i32⟩
  | 71 => ⟨S_, .i32⟩
  | 72 => ⟨S512x1, .i32⟩
  | 73 => ⟨S512x1, .i32⟩
  | 74 => ⟨S128, .i32⟩
  | 75 => ⟨S1x128, .i32⟩
  | 76 => ⟨S_, .i32⟩
  | 77 => ⟨S1x128, .i32⟩
  | 78 => ⟨S1x128, .i32⟩
  | 79 => ⟨S_, .i32⟩
  | 80 => ⟨S1x128, .i32⟩
  | 81 => ⟨S1x128, .i32⟩
  | 82 => ⟨S512x128, .i32⟩
  | 83 => ⟨S512x128, .i32⟩
  | 84 => ⟨S512x128, .i1⟩
  | 85 => ⟨S_, .i32⟩
  | 86 => ⟨S512x1, .i32⟩
  | 87 => ⟨S512x1, .i32⟩
  | 88 => ⟨S512x128, .i32⟩
  | 89 => ⟨S512x128, .i32⟩
  | 90 => ⟨S512x128, .i1⟩
  | 91 => ⟨S512x128, .i1⟩
  | 92 => ⟨S512x128, .bf16⟩
  | 93 => ⟨S128x512, .bf16⟩
  | 94 => ⟨S1024, .i32⟩
  | 95 => ⟨S1x1024x1, .i32⟩
  | 96 => ⟨S512, .i32⟩
  | 97 => ⟨S1x1x512, .i32⟩
  | 98 => ⟨S1x1024x512, .i32⟩
  | 99 => ⟨S1x1024x512, .i32⟩
  | 100 => ⟨S1x1024x512, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2x1x1, .i32⟩
  | 109 => ⟨S2x1024x512, .i32⟩
  | 110 => ⟨S2x1024x512, .i32⟩
  | 111 => ⟨S2x1024x512, .i32⟩
  | 112 => ⟨S_, .i32⟩
  | 113 => ⟨S2x1024x512, .i32⟩
  | 114 => ⟨S2x1024x512, .i1⟩
  | 115 => ⟨S_, .i32⟩
  | 116 => ⟨S2x1024x512, .i32⟩
  | 117 => ⟨S2x1024x512, .i1⟩
  | 118 => ⟨S2x1024x512, .i1⟩
  | 119 => ⟨S_, .f32⟩
  | 120 => ⟨S_, .f32⟩
  | 121 => ⟨S2x1024x512, .f32⟩
  | 122 => ⟨S2x1024x512, .f32⟩
  | 123 => ⟨S2x1024x512, .f32⟩
  | 124 => ⟨S2x1024x512, .f32⟩
  | 125 => ⟨S512, .i32⟩
  | 126 => ⟨S1x512x1, .i32⟩
  | 127 => ⟨S1x512x512, .i32⟩
  | _ => ⟨S2x8192x4x4x64, .f32⟩

abbrev hbmTy0_1 (i : Nat) : BufTy := match i % 128 with
  | 0 => ⟨S1x512x512, .i32⟩
  | 1 => ⟨S1x512x512, .i32⟩
  | 2 => ⟨S1, .i32⟩
  | 3 => ⟨S_, .i32⟩
  | 4 => ⟨S1, .i32⟩
  | 5 => ⟨S1, .i32⟩
  | 6 => ⟨S1x1x1, .i32⟩
  | 7 => ⟨S1x512x512, .i32⟩
  | 8 => ⟨S1x512x512, .i32⟩
  | 9 => ⟨S_, .i32⟩
  | 10 => ⟨S1x512x512, .i32⟩
  | 11 => ⟨S1x512x512, .i1⟩
  | 12 => ⟨S_, .f32⟩
  | 13 => ⟨S_, .f32⟩
  | 14 => ⟨S1x512x512, .f32⟩
  | 15 => ⟨S1x512x512, .f32⟩
  | 16 => ⟨S1x512x512, .f32⟩
  | 17 => ⟨S1x512x512, .f32⟩
  | 18 => ⟨S2x8192x1024, .bf16⟩
  | _ => ⟨S2x8192x4x4x64, .f32⟩

abbrev hbmTy (i : Nat) : BufTy := match i / 128 with
  | 0 => hbmTy0_0 i
  | 1 => hbmTy0_1 i
  | _ => ⟨S2x8192x4x4x64, .f32⟩

abbrev bufTy : (tb : Table) → Fin (tcTables nBuf tb) → BufTy
  | .hbm, ⟨i, _⟩ => hbmTy i
  | .local _ .vmem, ⟨0, _⟩ => ⟨S1x4x64x512, .bf16⟩
  | .local _ .vmem, ⟨1, _⟩ => ⟨S1x4x64x512, .bf16⟩
  | .local _ .vmem, ⟨2, _⟩ => ⟨S1x1x512x64, .bf16⟩
  | .local _ .vmem, ⟨3, _⟩ => ⟨S1x1x512x64, .bf16⟩
  | .local _ .vmem, ⟨4, _⟩ => ⟨S1x1x64x512, .bf16⟩
  | .local _ .vmem, ⟨5, _⟩ => ⟨S1x1x64x512, .bf16⟩
  | .local _ .vmem, ⟨6, _⟩ => ⟨S1x1x8192x256, .bf16⟩
  | .local _ .vmem, ⟨7, _⟩ => ⟨S1x1x8192x256, .bf16⟩
  | .local _ .vmem, ⟨8, _⟩ => ⟨S1x1x64x64x128, .bf16⟩
  | .local _ .vmem, ⟨9, _⟩ => ⟨S1x1x64x64x128, .bf16⟩
  | .local _ .vmem, ⟨10, _⟩ => ⟨S1x1x8192x64, .bf16⟩
  | .local _ .vmem, ⟨11, _⟩ => ⟨S1x1x8192x64, .bf16⟩
  | .local _ .vmem, ⟨12, _⟩ => ⟨S1x1x64x64x128, .bf16⟩
  | .local _ .vmem, ⟨13, _⟩ => ⟨S1x1x64x64x128, .bf16⟩
  | .local _ .vmem, ⟨14, _⟩ => ⟨S1x1x16x512, .f32⟩
  | .local _ .vmem, ⟨15, _⟩ => ⟨S1x1x16x512, .f32⟩
  | .local _ .vmem, ⟨16, _⟩ => ⟨S128x512, .bf16⟩
  | .local _ .vmem, ⟨17, _⟩ => ⟨S2x1024x512, .f32⟩
  | .local _ .vmem, ⟨18, _⟩ => ⟨S1x512x512, .f32⟩
  | .local _ .vmem, ⟨19, _⟩ => ⟨S1x512x256, .bf16⟩
  | .local _ .vmem, ⟨20, _⟩ => ⟨S1x512x256, .bf16⟩
  | .local _ .vmem, ⟨21, _⟩ => ⟨S512x2048, .f32⟩
  | .local _ .vmem, ⟨22, _⟩ => ⟨S512x2048, .f32⟩
  | _, _ => ⟨S2x8192x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_1 : Ref sig .tc := ⟨.hbm, 57, rfl⟩
abbrev main_call1_v0 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_2 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_3 : Ref sig .tc := ⟨.hbm, 76, rfl⟩
abbrev main_v46 : Ref sig .tc := ⟨.hbm, 77, rfl⟩
abbrev main_v47 : Ref sig .tc := ⟨.hbm, 78, rfl⟩
abbrev main_c_4 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_5 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_6 : Ref sig .tc := ⟨.hbm, 102, rfl⟩
abbrev main_v69 : Ref sig .tc := ⟨.hbm, 103, rfl⟩
abbrev main_v70 : Ref sig .tc := ⟨.hbm, 104, rfl⟩
abbrev main_c_7 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_8 : Ref sig .tc := ⟨.hbm, 112, rfl⟩
abbrev main_v77 : Ref sig .tc := ⟨.hbm, 113, rfl⟩
abbrev main_v78 : Ref sig .tc := ⟨.hbm, 114, rfl⟩
abbrev main_c_9 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_10 : Ref sig .tc := ⟨.hbm, 119, rfl⟩
abbrev main_cst_11 : Ref sig .tc := ⟨.hbm, 120, rfl⟩
abbrev main_call2_v0 : Ref sig .tc := ⟨.hbm, 121, rfl⟩
abbrev main_call2_v1 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_12 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_c_13 : Ref sig .tc := ⟨.hbm, 137, rfl⟩
abbrev main_v95 : Ref sig .tc := ⟨.hbm, 138, rfl⟩
abbrev main_v96 : Ref sig .tc := ⟨.hbm, 139, rfl⟩
abbrev main_cst_14 : Ref sig .tc := ⟨.hbm, 140, rfl⟩
abbrev main_cst_15 : Ref sig .tc := ⟨.hbm, 141, rfl⟩
abbrev main_call3_v0 : Ref sig .tc := ⟨.hbm, 142, rfl⟩
abbrev main_call3_v1 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨3, ![2, 4, 16], ![false, false, false]⟩

def k0_mult1 : BitVec 32 :=
  let c0_i32_120 : BitVec 32 := 0#32
  c0_i32_120
@[reducible] def k0_t1_loop (i : grid0.Coords) : Scf.Loop 32 :=
  let c0_i32_133 : BitVec 32 := 0#32
  let arg2 : BitVec 32 := BitVec.ofNat 32 (i 2).val
  let c512_i32 : BitVec 32 := 512#32
  let v0 : BitVec 32 := Scalar.muli arg2 c512_i32
  let c0_i32_112 : BitVec 32 := 0#32
  let v322 : BitVec 1 := Scalar.cmpi .sgt v0 c0_i32_112
  let v323 : BitVec 32 := Scalar.extui v322
  let c0_i32_113 : BitVec 32 := 0#32
  let v324 : BitVec 1 := Scalar.cmpi .slt v0 c0_i32_113
  let v325 : BitVec 32 := Scalar.extui v324
  let v326 : BitVec 32 := Scalar.subi v323 v325
  let c512_i32_111 : BitVec 32 := 512#32
  let c0_i32_114 : BitVec 32 := 0#32
  let v327 : BitVec 1 := Scalar.cmpi .sgt c512_i32_111 c0_i32_114
  let v328 : BitVec 32 := Scalar.extui v327
  let c0_i32_115 : BitVec 32 := 0#32
  let v329 : BitVec 1 := Scalar.cmpi .slt c512_i32_111 c0_i32_115
  let v330 : BitVec 32 := Scalar.extui v329
  let v331 : BitVec 32 := Scalar.subi v328 v330
  let v332 : BitVec 1 := Scalar.cmpi .ne v326 v331
  let v333 : BitVec 32 := Scalar.remsi v0 c512_i32_111
  let c0_i32_116 : BitVec 32 := 0#32
  let v334 : BitVec 1 := Scalar.cmpi .ne v333 c0_i32_116
  let v335 : BitVec 1 := Scalar.andi v332 v334
  let v321 : BitVec 32 := Scalar.divsi v0 c512_i32_111
  let c1_i32_117 : BitVec 32 := 1#32
  let v336 : BitVec 32 := Scalar.subi v321 c1_i32_117
  let v337 : BitVec 32 := Scalar.select v335 v336 v321
  let c0_i32_127 : BitVec 32 := 0#32
  let v349 : BitVec 1 := Scalar.cmpi .sgt v337 c0_i32_127
  let v350 : BitVec 32 := Scalar.extui v349
  let c0_i32_128 : BitVec 32 := 0#32
  let v351 : BitVec 1 := Scalar.cmpi .slt v337 c0_i32_128
  let v352 : BitVec 32 := Scalar.extui v351
  let v353 : BitVec 32 := Scalar.subi v350 v352
  let c2_i32 : BitVec 32 := 2#32
  let c0_i32_129 : BitVec 32 := 0#32
  let v354 : BitVec 1 := Scalar.cmpi .sgt c2_i32 c0_i32_129
  let v355 : BitVec 32 := Scalar.extui v354
  let c0_i32_130 : BitVec 32 := 0#32
  let v356 : BitVec 1 := Scalar.cmpi .slt c2_i32 c0_i32_130
  let v357 : BitVec 32 := Scalar.extui v356
  let v358 : BitVec 32 := Scalar.subi v355 v357
  let v359 : BitVec 1 := Scalar.cmpi .ne v353 v358
  let v360 : BitVec 32 := Scalar.remsi v337 c2_i32
  let c0_i32_131 : BitVec 32 := 0#32
  let v361 : BitVec 1 := Scalar.cmpi .ne v360 c0_i32_131
  let v362 : BitVec 1 := Scalar.andi v359 v361
  let v348 : BitVec 32 := Scalar.divsi v337 c2_i32
  let c1_i32_132 : BitVec 32 := 1#32
  let v363 : BitVec 32 := Scalar.subi v348 c1_i32_132
  let v364 : BitVec 32 := Scalar.select v362 v363 v348
  let v365 : BitVec 32 := Scalar.subi v364 c0_i32_133
  let c1_i32_134 : BitVec 32 := 1#32
  let v367 : BitVec 32 := Scalar.divsi v365 c1_i32_134
  let v368 : BitVec 32 := Scalar.muli v367 c1_i32_134
  let v369 : BitVec 32 := Scalar.addi c0_i32_133 v368
  let c1_i32_135 : BitVec 32 := 1#32
  ⟨c0_i32_133, v369, c1_i32_135⟩
def k0_mult2 (i : grid0.Coords) (k0_t1 : Fin (k0_t1_loop i).trips) : BitVec 32 :=
  let c2_i32_255 : BitVec 32 := 2#32
  let c0_i32_133 : BitVec 32 := 0#32
  let c1_i32_135 : BitVec 32 := 1#32
  let arg17 : BitVec 32 := Scf.iv c0_i32_133 c1_i32_135 k0_t1
  let v650 : BitVec 32 := Scalar.muli c2_i32_255 arg17
  let c1_i32_256 : BitVec 32 := 1#32
  let v651 : BitVec 32 := Scalar.addi v650 c1_i32_256
  let c512_i32_257 : BitVec 32 := 512#32
  let v652 : BitVec 32 := Scalar.muli v651 c512_i32_257
  v652
def k0_off1 (i : grid0.Coords) (k0_t1 : Fin (k0_t1_loop i).trips) (c1_i32_256 : BitVec 32) : Fin 4 → Nat :=
  let c0_258 : Index := 0#32
  let c0_259 : Index := 0#32
  let c2_i32_255 : BitVec 32 := 2#32
  let c0_i32_133 : BitVec 32 := 0#32
  let c1_i32_135 : BitVec 32 := 1#32
  let arg17 : BitVec 32 := Scf.iv c0_i32_133 c1_i32_135 k0_t1
  let v650 : BitVec 32 := Scalar.muli c2_i32_255 arg17
  let v651 : BitVec 32 := Scalar.addi v650 c1_i32_256
  let c512_i32_257 : BitVec 32 := 512#32
  let v652 : BitVec 32 := Scalar.muli v651 c512_i32_257
  let v653 : BitVec 32 := v652
  let v654 : Index := Scalar.indexCast v653
  let c0_260 : Index := 0#32
  ![0, 0, v654.toNat, 0]
def k0_off2 (i : grid0.Coords) (k0_t1 : Fin (k0_t1_loop i).trips) (c0_i32_269 : BitVec 32) : Fin 5 → Nat :=
  let c0_270 : Index := 0#32
  let c0_271 : Index := 0#32
  let c2_i32_264 : BitVec 32 := 2#32
  let c0_i32_133 : BitVec 32 := 0#32
  let c1_i32_135 : BitVec 32 := 1#32
  let arg17 : BitVec 32 := Scf.iv c0_i32_133 c1_i32_135 k0_t1
  let v661 : BitVec 32 := Scalar.muli c2_i32_264 arg17
  let c4_i32_268 : BitVec 32 := 4#32
  let v670 : BitVec 32 := Scalar.muli v661 c4_i32_268
  let v671 : BitVec 32 := Scalar.addi v670 c0_i32_269
  let v672 : Index := Scalar.indexCast v671
  let c0_272 : Index := 0#32
  let c0_273 : Index := 0#32
  ![0, 0, v672.toNat, 0, 0]
def k0_mult3 (i : grid0.Coords) (k0_t1 : Fin (k0_t1_loop i).trips) : BitVec 32 :=
  let c2_i32_294 : BitVec 32 := 2#32
  let c0_i32_133 : BitVec 32 := 0#32
  let c1_i32_135 : BitVec 32 := 1#32
  let arg17 : BitVec 32 := Scf.iv c0_i32_133 c1_i32_135 k0_t1
  let v699 : BitVec 32 := Scalar.muli c2_i32_294 arg17
  let c2_i32_295 : BitVec 32 := 2#32
  let v700 : BitVec 32 := Scalar.addi v699 c2_i32_295
  let c512_i32_296 : BitVec 32 := 512#32
  let v701 : BitVec 32 := Scalar.muli v700 c512_i32_296
  v701
def k0_off3 (i : grid0.Coords) (k0_t1 : Fin (k0_t1_loop i).trips) (c0_i32_309 : BitVec 32) : Fin 5 → Nat :=
  let c0_310 : Index := 0#32
  let c0_311 : Index := 0#32
  let c2_i32_303 : BitVec 32 := 2#32
  let c0_i32_133 : BitVec 32 := 0#32
  let c1_i32_135 : BitVec 32 := 1#32
  let arg17 : BitVec 32 := Scf.iv c0_i32_133 c1_i32_135 k0_t1
  let v710 : BitVec 32 := Scalar.muli c2_i32_303 arg17
  let c1_i32_304 : BitVec 32 := 1#32
  let v711 : BitVec 32 := Scalar.addi v710 c1_i32_304
  let c4_i32_308 : BitVec 32 := 4#32
  let v720 : BitVec 32 := Scalar.muli v711 c4_i32_308
  let v721 : BitVec 32 := Scalar.addi v720 c0_i32_309
  let v722 : Index := Scalar.indexCast v721
  let c0_312 : Index := 0#32
  let c0_313 : Index := 0#32
  ![0, 0, v722.toNat, 0, 0]
@[reducible] def k0_t2_loop (i : grid0.Coords) : Scf.Loop 32 :=
  let c0_i32_133 : BitVec 32 := 0#32
  let arg2 : BitVec 32 := BitVec.ofNat 32 (i 2).val
  let c512_i32 : BitVec 32 := 512#32
  let v0 : BitVec 32 := Scalar.muli arg2 c512_i32
  let c0_i32_112 : BitVec 32 := 0#32
  let v322 : BitVec 1 := Scalar.cmpi .sgt v0 c0_i32_112
  let v323 : BitVec 32 := Scalar.extui v322
  let c0_i32_113 : BitVec 32 := 0#32
  let v324 : BitVec 1 := Scalar.cmpi .slt v0 c0_i32_113
  let v325 : BitVec 32 := Scalar.extui v324
  let v326 : BitVec 32 := Scalar.subi v323 v325
  let c512_i32_111 : BitVec 32 := 512#32
  let c0_i32_114 : BitVec 32 := 0#32
  let v327 : BitVec 1 := Scalar.cmpi .sgt c512_i32_111 c0_i32_114
  let v328 : BitVec 32 := Scalar.extui v327
  let c0_i32_115 : BitVec 32 := 0#32
  let v329 : BitVec 1 := Scalar.cmpi .slt c512_i32_111 c0_i32_115
  let v330 : BitVec 32 := Scalar.extui v329
  let v331 : BitVec 32 := Scalar.subi v328 v330
  let v332 : BitVec 1 := Scalar.cmpi .ne v326 v331
  let v333 : BitVec 32 := Scalar.remsi v0 c512_i32_111
  let c0_i32_116 : BitVec 32 := 0#32
  let v334 : BitVec 1 := Scalar.cmpi .ne v333 c0_i32_116
  let v335 : BitVec 1 := Scalar.andi v332 v334
  let v321 : BitVec 32 := Scalar.divsi v0 c512_i32_111
  let c1_i32_117 : BitVec 32 := 1#32
  let v336 : BitVec 32 := Scalar.subi v321 c1_i32_117
  let v337 : BitVec 32 := Scalar.select v335 v336 v321
  let c0_i32_127 : BitVec 32 := 0#32
  let v349 : BitVec 1 := Scalar.cmpi .sgt v337 c0_i32_127
  let v350 : BitVec 32 := Scalar.extui v349
  let c0_i32_128 : BitVec 32 := 0#32
  let v351 : BitVec 1 := Scalar.cmpi .slt v337 c0_i32_128
  let v352 : BitVec 32 := Scalar.extui v351
  let v353 : BitVec 32 := Scalar.subi v350 v352
  let c2_i32 : BitVec 32 := 2#32
  let c0_i32_129 : BitVec 32 := 0#32
  let v354 : BitVec 1 := Scalar.cmpi .sgt c2_i32 c0_i32_129
  let v355 : BitVec 32 := Scalar.extui v354
  let c0_i32_130 : BitVec 32 := 0#32
  let v356 : BitVec 1 := Scalar.cmpi .slt c2_i32 c0_i32_130
  let v357 : BitVec 32 := Scalar.extui v356
  let v358 : BitVec 32 := Scalar.subi v355 v357
  let v359 : BitVec 1 := Scalar.cmpi .ne v353 v358
  let v360 : BitVec 32 := Scalar.remsi v337 c2_i32
  let c0_i32_131 : BitVec 32 := 0#32
  let v361 : BitVec 1 := Scalar.cmpi .ne v360 c0_i32_131
  let v362 : BitVec 1 := Scalar.andi v359 v361
  let v348 : BitVec 32 := Scalar.divsi v337 c2_i32
  let c1_i32_132 : BitVec 32 := 1#32
  let v363 : BitVec 32 := Scalar.subi v348 c1_i32_132
  let v364 : BitVec 32 := Scalar.select v362 v363 v348
  let v365 : BitVec 32 := Scalar.subi v364 c0_i32_133
  let c1_i32_134 : BitVec 32 := 1#32
  let v367 : BitVec 32 := Scalar.divsi v365 c1_i32_134
  let v368 : BitVec 32 := Scalar.muli v367 c1_i32_134
  let v369 : BitVec 32 := Scalar.addi c0_i32_133 v368
  let v366 : BitVec 32 := Scalar.addi c0_i32_133 v365
  let c1_i32_136 : BitVec 32 := 1#32
  ⟨v369, v366, c1_i32_136⟩
def k0_mult4 (i : grid0.Coords) (k0_t2 : Fin (k0_t2_loop i).trips) : BitVec 32 :=
  let c2_i32_255 : BitVec 32 := 2#32
  let c0_i32_133 : BitVec 32 := 0#32
  let arg2 : BitVec 32 := BitVec.ofNat 32 (i 2).val
  let c512_i32 : BitVec 32 := 512#32
  let v0 : BitVec 32 := Scalar.muli arg2 c512_i32
  let c0_i32_112 : BitVec 32 := 0#32
  let v322 : BitVec 1 := Scalar.cmpi .sgt v0 c0_i32_112
  let v323 : BitVec 32 := Scalar.extui v322
  let c0_i32_113 : BitVec 32 := 0#32
  let v324 : BitVec 1 := Scalar.cmpi .slt v0 c0_i32_113
  let v325 : BitVec 32 := Scalar.extui v324
  let v326 : BitVec 32 := Scalar.subi v323 v325
  let c512_i32_111 : BitVec 32 := 512#32
  let c0_i32_114 : BitVec 32 := 0#32
  let v327 : BitVec 1 := Scalar.cmpi .sgt c512_i32_111 c0_i32_114
  let v328 : BitVec 32 := Scalar.extui v327
  let c0_i32_115 : BitVec 32 := 0#32
  let v329 : BitVec 1 := Scalar.cmpi .slt c512_i32_111 c0_i32_115
  let v330 : BitVec 32 := Scalar.extui v329
  let v331 : BitVec 32 := Scalar.subi v328 v330
  let v332 : BitVec 1 := Scalar.cmpi .ne v326 v331
  let v333 : BitVec 32 := Scalar.remsi v0 c512_i32_111
  let c0_i32_116 : BitVec 32 := 0#32
  let v334 : BitVec 1 := Scalar.cmpi .ne v333 c0_i32_116
  let v335 : BitVec 1 := Scalar.andi v332 v334
  let v321 : BitVec 32 := Scalar.divsi v0 c512_i32_111
  let c1_i32_117 : BitVec 32 := 1#32
  let v336 : BitVec 32 := Scalar.subi v321 c1_i32_117
  let v337 : BitVec 32 := Scalar.select v335 v336 v321
  let c0_i32_127 : BitVec 32 := 0#32
  let v349 : BitVec 1 := Scalar.cmpi .sgt v337 c0_i32_127
  let v350 : BitVec 32 := Scalar.extui v349
  let c0_i32_128 : BitVec 32 := 0#32
  let v351 : BitVec 1 := Scalar.cmpi .slt v337 c0_i32_128
  let v352 : BitVec 32 := Scalar.extui v351
  let v353 : BitVec 32 := Scalar.subi v350 v352
  let c2_i32 : BitVec 32 := 2#32
  let c0_i32_129 : BitVec 32 := 0#32
  let v354 : BitVec 1 := Scalar.cmpi .sgt c2_i32 c0_i32_129
  let v355 : BitVec 32 := Scalar.extui v354
  let c0_i32_130 : BitVec 32 := 0#32
  let v356 : BitVec 1 := Scalar.cmpi .slt c2_i32 c0_i32_130
  let v357 : BitVec 32 := Scalar.extui v356
  let v358 : BitVec 32 := Scalar.subi v355 v357
  let v359 : BitVec 1 := Scalar.cmpi .ne v353 v358
  let v360 : BitVec 32 := Scalar.remsi v337 c2_i32
  let c0_i32_131 : BitVec 32 := 0#32
  let v361 : BitVec 1 := Scalar.cmpi .ne v360 c0_i32_131
  let v362 : BitVec 1 := Scalar.andi v359 v361
  let v348 : BitVec 32 := Scalar.divsi v337 c2_i32
  let c1_i32_132 : BitVec 32 := 1#32
  let v363 : BitVec 32 := Scalar.subi v348 c1_i32_132
  let v364 : BitVec 32 := Scalar.select v362 v363 v348
  let v365 : BitVec 32 := Scalar.subi v364 c0_i32_133
  let c1_i32_134 : BitVec 32 := 1#32
  let v367 : BitVec 32 := Scalar.divsi v365 c1_i32_134
  let v368 : BitVec 32 := Scalar.muli v367 c1_i32_134
  let v369 : BitVec 32 := Scalar.addi c0_i32_133 v368
  let c1_i32_136 : BitVec 32 := 1#32
  let arg17 : BitVec 32 := Scf.iv v369 c1_i32_136 k0_t2
  let v650 : BitVec 32 := Scalar.muli c2_i32_255 arg17
  let c1_i32_256 : BitVec 32 := 1#32
  let v651 : BitVec 32 := Scalar.addi v650 c1_i32_256
  let c512_i32_257 : BitVec 32 := 512#32
  let v652 : BitVec 32 := Scalar.muli v651 c512_i32_257
  v652
def k0_off4 (i : grid0.Coords) (k0_t2 : Fin (k0_t2_loop i).trips) (c1_i32_256 : BitVec 32) : Fin 4 → Nat :=
  let c0_258 : Index := 0#32
  let c0_259 : Index := 0#32
  let c2_i32_255 : BitVec 32 := 2#32
  let c0_i32_133 : BitVec 32 := 0#32
  let arg2 : BitVec 32 := BitVec.ofNat 32 (i 2).val
  let c512_i32 : BitVec 32 := 512#32
  let v0 : BitVec 32 := Scalar.muli arg2 c512_i32
  let c0_i32_112 : BitVec 32 := 0#32
  let v322 : BitVec 1 := Scalar.cmpi .sgt v0 c0_i32_112
  let v323 : BitVec 32 := Scalar.extui v322
  let c0_i32_113 : BitVec 32 := 0#32
  let v324 : BitVec 1 := Scalar.cmpi .slt v0 c0_i32_113
  let v325 : BitVec 32 := Scalar.extui v324
  let v326 : BitVec 32 := Scalar.subi v323 v325
  let c512_i32_111 : BitVec 32 := 512#32
  let c0_i32_114 : BitVec 32 := 0#32
  let v327 : BitVec 1 := Scalar.cmpi .sgt c512_i32_111 c0_i32_114
  let v328 : BitVec 32 := Scalar.extui v327
  let c0_i32_115 : BitVec 32 := 0#32
  let v329 : BitVec 1 := Scalar.cmpi .slt c512_i32_111 c0_i32_115
  let v330 : BitVec 32 := Scalar.extui v329
  let v331 : BitVec 32 := Scalar.subi v328 v330
  let v332 : BitVec 1 := Scalar.cmpi .ne v326 v331
  let v333 : BitVec 32 := Scalar.remsi v0 c512_i32_111
  let c0_i32_116 : BitVec 32 := 0#32
  let v334 : BitVec 1 := Scalar.cmpi .ne v333 c0_i32_116
  let v335 : BitVec 1 := Scalar.andi v332 v334
  let v321 : BitVec 32 := Scalar.divsi v0 c512_i32_111
  let c1_i32_117 : BitVec 32 := 1#32
  let v336 : BitVec 32 := Scalar.subi v321 c1_i32_117
  let v337 : BitVec 32 := Scalar.select v335 v336 v321
  let c0_i32_127 : BitVec 32 := 0#32
  let v349 : BitVec 1 := Scalar.cmpi .sgt v337 c0_i32_127
  let v350 : BitVec 32 := Scalar.extui v349
  let c0_i32_128 : BitVec 32 := 0#32
  let v351 : BitVec 1 := Scalar.cmpi .slt v337 c0_i32_128
  let v352 : BitVec 32 := Scalar.extui v351
  let v353 : BitVec 32 := Scalar.subi v350 v352
  let c2_i32 : BitVec 32 := 2#32
  let c0_i32_129 : BitVec 32 := 0#32
  let v354 : BitVec 1 := Scalar.cmpi .sgt c2_i32 c0_i32_129
  let v355 : BitVec 32 := Scalar.extui v354
  let c0_i32_130 : BitVec 32 := 0#32
  let v356 : BitVec 1 := Scalar.cmpi .slt c2_i32 c0_i32_130
  let v357 : BitVec 32 := Scalar.extui v356
  let v358 : BitVec 32 := Scalar.subi v355 v357
  let v359 : BitVec 1 := Scalar.cmpi .ne v353 v358
  let v360 : BitVec 32 := Scalar.remsi v337 c2_i32
  let c0_i32_131 : BitVec 32 := 0#32
  let v361 : BitVec 1 := Scalar.cmpi .ne v360 c0_i32_131
  let v362 : BitVec 1 := Scalar.andi v359 v361
  let v348 : BitVec 32 := Scalar.divsi v337 c2_i32
  let c1_i32_132 : BitVec 32 := 1#32
  let v363 : BitVec 32 := Scalar.subi v348 c1_i32_132
  let v364 : BitVec 32 := Scalar.select v362 v363 v348
  let v365 : BitVec 32 := Scalar.subi v364 c0_i32_133
  let c1_i32_134 : BitVec 32 := 1#32
  let v367 : BitVec 32 := Scalar.divsi v365 c1_i32_134
  let v368 : BitVec 32 := Scalar.muli v367 c1_i32_134
  let v369 : BitVec 32 := Scalar.addi c0_i32_133 v368
  let c1_i32_136 : BitVec 32 := 1#32
  let arg17 : BitVec 32 := Scf.iv v369 c1_i32_136 k0_t2
  let v650 : BitVec 32 := Scalar.muli c2_i32_255 arg17
  let v651 : BitVec 32 := Scalar.addi v650 c1_i32_256
  let c512_i32_257 : BitVec 32 := 512#32
  let v652 : BitVec 32 := Scalar.muli v651 c512_i32_257
  let v653 : BitVec 32 := v652
  let v654 : Index := Scalar.indexCast v653
  let c0_260 : Index := 0#32
  ![0, 0, v654.toNat, 0]
def k0_off5 (i : grid0.Coords) (k0_t2 : Fin (k0_t2_loop i).trips) (c0_i32_269 : BitVec 32) : Fin 5 → Nat :=
  let c0_270 : Index := 0#32
  let c0_271 : Index := 0#32
  let c2_i32_264 : BitVec 32 := 2#32
  let c0_i32_133 : BitVec 32 := 0#32
  let arg2 : BitVec 32 := BitVec.ofNat 32 (i 2).val
  let c512_i32 : BitVec 32 := 512#32
  let v0 : BitVec 32 := Scalar.muli arg2 c512_i32
  let c0_i32_112 : BitVec 32 := 0#32
  let v322 : BitVec 1 := Scalar.cmpi .sgt v0 c0_i32_112
  let v323 : BitVec 32 := Scalar.extui v322
  let c0_i32_113 : BitVec 32 := 0#32
  let v324 : BitVec 1 := Scalar.cmpi .slt v0 c0_i32_113
  let v325 : BitVec 32 := Scalar.extui v324
  let v326 : BitVec 32 := Scalar.subi v323 v325
  let c512_i32_111 : BitVec 32 := 512#32
  let c0_i32_114 : BitVec 32 := 0#32
  let v327 : BitVec 1 := Scalar.cmpi .sgt c512_i32_111 c0_i32_114
  let v328 : BitVec 32 := Scalar.extui v327
  let c0_i32_115 : BitVec 32 := 0#32
  let v329 : BitVec 1 := Scalar.cmpi .slt c512_i32_111 c0_i32_115
  let v330 : BitVec 32 := Scalar.extui v329
  let v331 : BitVec 32 := Scalar.subi v328 v330
  let v332 : BitVec 1 := Scalar.cmpi .ne v326 v331
  let v333 : BitVec 32 := Scalar.remsi v0 c512_i32_111
  let c0_i32_116 : BitVec 32 := 0#32
  let v334 : BitVec 1 := Scalar.cmpi .ne v333 c0_i32_116
  let v335 : BitVec 1 := Scalar.andi v332 v334
  let v321 : BitVec 32 := Scalar.divsi v0 c512_i32_111
  let c1_i32_117 : BitVec 32 := 1#32
  let v336 : BitVec 32 := Scalar.subi v321 c1_i32_117
  let v337 : BitVec 32 := Scalar.select v335 v336 v321
  let c0_i32_127 : BitVec 32 := 0#32
  let v349 : BitVec 1 := Scalar.cmpi .sgt v337 c0_i32_127
  let v350 : BitVec 32 := Scalar.extui v349
  let c0_i32_128 : BitVec 32 := 0#32
  let v351 : BitVec 1 := Scalar.cmpi .slt v337 c0_i32_128
  let v352 : BitVec 32 := Scalar.extui v351
  let v353 : BitVec 32 := Scalar.subi v350 v352
  let c2_i32 : BitVec 32 := 2#32
  let c0_i32_129 : BitVec 32 := 0#32
  let v354 : BitVec 1 := Scalar.cmpi .sgt c2_i32 c0_i32_129
  let v355 : BitVec 32 := Scalar.extui v354
  let c0_i32_130 : BitVec 32 := 0#32
  let v356 : BitVec 1 := Scalar.cmpi .slt c2_i32 c0_i32_130
  let v357 : BitVec 32 := Scalar.extui v356
  let v358 : BitVec 32 := Scalar.subi v355 v357
  let v359 : BitVec 1 := Scalar.cmpi .ne v353 v358
  let v360 : BitVec 32 := Scalar.remsi v337 c2_i32
  let c0_i32_131 : BitVec 32 := 0#32
  let v361 : BitVec 1 := Scalar.cmpi .ne v360 c0_i32_131
  let v362 : BitVec 1 := Scalar.andi v359 v361
  let v348 : BitVec 32 := Scalar.divsi v337 c2_i32
  let c1_i32_132 : BitVec 32 := 1#32
  let v363 : BitVec 32 := Scalar.subi v348 c1_i32_132
  let v364 : BitVec 32 := Scalar.select v362 v363 v348
  let v365 : BitVec 32 := Scalar.subi v364 c0_i32_133
  let c1_i32_134 : BitVec 32 := 1#32
  let v367 : BitVec 32 := Scalar.divsi v365 c1_i32_134
  let v368 : BitVec 32 := Scalar.muli v367 c1_i32_134
  let v369 : BitVec 32 := Scalar.addi c0_i32_133 v368
  let c1_i32_136 : BitVec 32 := 1#32
  let arg17 : BitVec 32 := Scf.iv v369 c1_i32_136 k0_t2
  let v661 : BitVec 32 := Scalar.muli c2_i32_264 arg17
  let c4_i32_268 : BitVec 32 := 4#32
  let v670 : BitVec 32 := Scalar.muli v661 c4_i32_268
  let v671 : BitVec 32 := Scalar.addi v670 c0_i32_269
  let v672 : Index := Scalar.indexCast v671
  let c0_272 : Index := 0#32
  let c0_273 : Index := 0#32
  ![0, 0, v672.toNat, 0, 0]
def k0_mult5 (i : grid0.Coords) (k0_t2 : Fin (k0_t2_loop i).trips) : BitVec 32 :=
  let c2_i32_294 : BitVec 32 := 2#32
  let c0_i32_133 : BitVec 32 := 0#32
  let arg2 : BitVec 32 := BitVec.ofNat 32 (i 2).val
  let c512_i32 : BitVec 32 := 512#32
  let v0 : BitVec 32 := Scalar.muli arg2 c512_i32
  let c0_i32_112 : BitVec 32 := 0#32
  let v322 : BitVec 1 := Scalar.cmpi .sgt v0 c0_i32_112
  let v323 : BitVec 32 := Scalar.extui v322
  let c0_i32_113 : BitVec 32 := 0#32
  let v324 : BitVec 1 := Scalar.cmpi .slt v0 c0_i32_113
  let v325 : BitVec 32 := Scalar.extui v324
  let v326 : BitVec 32 := Scalar.subi v323 v325
  let c512_i32_111 : BitVec 32 := 512#32
  let c0_i32_114 : BitVec 32 := 0#32
  let v327 : BitVec 1 := Scalar.cmpi .sgt c512_i32_111 c0_i32_114
  let v328 : BitVec 32 := Scalar.extui v327
  let c0_i32_115 : BitVec 32 := 0#32
  let v329 : BitVec 1 := Scalar.cmpi .slt c512_i32_111 c0_i32_115
  let v330 : BitVec 32 := Scalar.extui v329
  let v331 : BitVec 32 := Scalar.subi v328 v330
  let v332 : BitVec 1 := Scalar.cmpi .ne v326 v331
  let v333 : BitVec 32 := Scalar.remsi v0 c512_i32_111
  let c0_i32_116 : BitVec 32 := 0#32
  let v334 : BitVec 1 := Scalar.cmpi .ne v333 c0_i32_116
  let v335 : BitVec 1 := Scalar.andi v332 v334
  let v321 : BitVec 32 := Scalar.divsi v0 c512_i32_111
  let c1_i32_117 : BitVec 32 := 1#32
  let v336 : BitVec 32 := Scalar.subi v321 c1_i32_117
  let v337 : BitVec 32 := Scalar.select v335 v336 v321
  let c0_i32_127 : BitVec 32 := 0#32
  let v349 : BitVec 1 := Scalar.cmpi .sgt v337 c0_i32_127
  let v350 : BitVec 32 := Scalar.extui v349
  let c0_i32_128 : BitVec 32 := 0#32
  let v351 : BitVec 1 := Scalar.cmpi .slt v337 c0_i32_128
  let v352 : BitVec 32 := Scalar.extui v351
  let v353 : BitVec 32 := Scalar.subi v350 v352
  let c2_i32 : BitVec 32 := 2#32
  let c0_i32_129 : BitVec 32 := 0#32
  let v354 : BitVec 1 := Scalar.cmpi .sgt c2_i32 c0_i32_129
  let v355 : BitVec 32 := Scalar.extui v354
  let c0_i32_130 : BitVec 32 := 0#32
  let v356 : BitVec 1 := Scalar.cmpi .slt c2_i32 c0_i32_130
  let v357 : BitVec 32 := Scalar.extui v356
  let v358 : BitVec 32 := Scalar.subi v355 v357
  let v359 : BitVec 1 := Scalar.cmpi .ne v353 v358
  let v360 : BitVec 32 := Scalar.remsi v337 c2_i32
  let c0_i32_131 : BitVec 32 := 0#32
  let v361 : BitVec 1 := Scalar.cmpi .ne v360 c0_i32_131
  let v362 : BitVec 1 := Scalar.andi v359 v361
  let v348 : BitVec 32 := Scalar.divsi v337 c2_i32
  let c1_i32_132 : BitVec 32 := 1#32
  let v363 : BitVec 32 := Scalar.subi v348 c1_i32_132
  let v364 : BitVec 32 := Scalar.select v362 v363 v348
  let v365 : BitVec 32 := Scalar.subi v364 c0_i32_133
  let c1_i32_134 : BitVec 32 := 1#32
  let v367 : BitVec 32 := Scalar.divsi v365 c1_i32_134
  let v368 : BitVec 32 := Scalar.muli v367 c1_i32_134
  let v369 : BitVec 32 := Scalar.addi c0_i32_133 v368
  let c1_i32_136 : BitVec 32 := 1#32
  let arg17 : BitVec 32 := Scf.iv v369 c1_i32_136 k0_t2
  let v699 : BitVec 32 := Scalar.muli c2_i32_294 arg17
  let c2_i32_295 : BitVec 32 := 2#32
  let v700 : BitVec 32 := Scalar.addi v699 c2_i32_295
  let c512_i32_296 : BitVec 32 := 512#32
  let v701 : BitVec 32 := Scalar.muli v700 c512_i32_296
  v701
def k0_off6 (i : grid0.Coords) (k0_t2 : Fin (k0_t2_loop i).trips) (c0_i32_309 : BitVec 32) : Fin 5 → Nat :=
  let c0_310 : Index := 0#32
  let c0_311 : Index := 0#32
  let c2_i32_303 : BitVec 32 := 2#32
  let c0_i32_133 : BitVec 32 := 0#32
  let arg2 : BitVec 32 := BitVec.ofNat 32 (i 2).val
  let c512_i32 : BitVec 32 := 512#32
  let v0 : BitVec 32 := Scalar.muli arg2 c512_i32
  let c0_i32_112 : BitVec 32 := 0#32
  let v322 : BitVec 1 := Scalar.cmpi .sgt v0 c0_i32_112
  let v323 : BitVec 32 := Scalar.extui v322
  let c0_i32_113 : BitVec 32 := 0#32
  let v324 : BitVec 1 := Scalar.cmpi .slt v0 c0_i32_113
  let v325 : BitVec 32 := Scalar.extui v324
  let v326 : BitVec 32 := Scalar.subi v323 v325
  let c512_i32_111 : BitVec 32 := 512#32
  let c0_i32_114 : BitVec 32 := 0#32
  let v327 : BitVec 1 := Scalar.cmpi .sgt c512_i32_111 c0_i32_114
  let v328 : BitVec 32 := Scalar.extui v327
  let c0_i32_115 : BitVec 32 := 0#32
  let v329 : BitVec 1 := Scalar.cmpi .slt c512_i32_111 c0_i32_115
  let v330 : BitVec 32 := Scalar.extui v329
  let v331 : BitVec 32 := Scalar.subi v328 v330
  let v332 : BitVec 1 := Scalar.cmpi .ne v326 v331
  let v333 : BitVec 32 := Scalar.remsi v0 c512_i32_111
  let c0_i32_116 : BitVec 32 := 0#32
  let v334 : BitVec 1 := Scalar.cmpi .ne v333 c0_i32_116
  let v335 : BitVec 1 := Scalar.andi v332 v334
  let v321 : BitVec 32 := Scalar.divsi v0 c512_i32_111
  let c1_i32_117 : BitVec 32 := 1#32
  let v336 : BitVec 32 := Scalar.subi v321 c1_i32_117
  let v337 : BitVec 32 := Scalar.select v335 v336 v321
  let c0_i32_127 : BitVec 32 := 0#32
  let v349 : BitVec 1 := Scalar.cmpi .sgt v337 c0_i32_127
  let v350 : BitVec 32 := Scalar.extui v349
  let c0_i32_128 : BitVec 32 := 0#32
  let v351 : BitVec 1 := Scalar.cmpi .slt v337 c0_i32_128
  let v352 : BitVec 32 := Scalar.extui v351
  let v353 : BitVec 32 := Scalar.subi v350 v352
  let c2_i32 : BitVec 32 := 2#32
  let c0_i32_129 : BitVec 32 := 0#32
  let v354 : BitVec 1 := Scalar.cmpi .sgt c2_i32 c0_i32_129
  let v355 : BitVec 32 := Scalar.extui v354
  let c0_i32_130 : BitVec 32 := 0#32
  let v356 : BitVec 1 := Scalar.cmpi .slt c2_i32 c0_i32_130
  let v357 : BitVec 32 := Scalar.extui v356
  let v358 : BitVec 32 := Scalar.subi v355 v357
  let v359 : BitVec 1 := Scalar.cmpi .ne v353 v358
  let v360 : BitVec 32 := Scalar.remsi v337 c2_i32
  let c0_i32_131 : BitVec 32 := 0#32
  let v361 : BitVec 1 := Scalar.cmpi .ne v360 c0_i32_131
  let v362 : BitVec 1 := Scalar.andi v359 v361
  let v348 : BitVec 32 := Scalar.divsi v337 c2_i32
  let c1_i32_132 : BitVec 32 := 1#32
  let v363 : BitVec 32 := Scalar.subi v348 c1_i32_132
  let v364 : BitVec 32 := Scalar.select v362 v363 v348
  let v365 : BitVec 32 := Scalar.subi v364 c0_i32_133
  let c1_i32_134 : BitVec 32 := 1#32
  let v367 : BitVec 32 := Scalar.divsi v365 c1_i32_134
  let v368 : BitVec 32 := Scalar.muli v367 c1_i32_134
  let v369 : BitVec 32 := Scalar.addi c0_i32_133 v368
  let c1_i32_136 : BitVec 32 := 1#32
  let arg17 : BitVec 32 := Scf.iv v369 c1_i32_136 k0_t2
  let v710 : BitVec 32 := Scalar.muli c2_i32_303 arg17
  let c1_i32_304 : BitVec 32 := 1#32
  let v711 : BitVec 32 := Scalar.addi v710 c1_i32_304
  let c4_i32_308 : BitVec 32 := 4#32
  let v720 : BitVec 32 := Scalar.muli v711 c4_i32_308
  let v721 : BitVec 32 := Scalar.addi v720 c0_i32_309
  let v722 : Index := Scalar.indexCast v721
  let c0_312 : Index := 0#32
  let c0_313 : Index := 0#32
  ![0, 0, v722.toNat, 0, 0]
def k0_cond1 (i : grid0.Coords) : BitVec 1 :=
  let arg2 : BitVec 32 := BitVec.ofNat 32 (i 2).val
  let c512_i32 : BitVec 32 := 512#32
  let v0 : BitVec 32 := Scalar.muli arg2 c512_i32
  let c0_i32_112 : BitVec 32 := 0#32
  let v322 : BitVec 1 := Scalar.cmpi .sgt v0 c0_i32_112
  let v323 : BitVec 32 := Scalar.extui v322
  let c0_i32_113 : BitVec 32 := 0#32
  let v324 : BitVec 1 := Scalar.cmpi .slt v0 c0_i32_113
  let v325 : BitVec 32 := Scalar.extui v324
  let v326 : BitVec 32 := Scalar.subi v323 v325
  let c512_i32_111 : BitVec 32 := 512#32
  let c0_i32_114 : BitVec 32 := 0#32
  let v327 : BitVec 1 := Scalar.cmpi .sgt c512_i32_111 c0_i32_114
  let v328 : BitVec 32 := Scalar.extui v327
  let c0_i32_115 : BitVec 32 := 0#32
  let v329 : BitVec 1 := Scalar.cmpi .slt c512_i32_111 c0_i32_115
  let v330 : BitVec 32 := Scalar.extui v329
  let v331 : BitVec 32 := Scalar.subi v328 v330
  let v332 : BitVec 1 := Scalar.cmpi .ne v326 v331
  let v333 : BitVec 32 := Scalar.remsi v0 c512_i32_111
  let c0_i32_116 : BitVec 32 := 0#32
  let v334 : BitVec 1 := Scalar.cmpi .ne v333 c0_i32_116
  let v335 : BitVec 1 := Scalar.andi v332 v334
  let v321 : BitVec 32 := Scalar.divsi v0 c512_i32_111
  let c1_i32_117 : BitVec 32 := 1#32
  let v336 : BitVec 32 := Scalar.subi v321 c1_i32_117
  let v337 : BitVec 32 := Scalar.select v335 v336 v321
  let c2_i32_137 : BitVec 32 := 2#32
  let c0_i32_138 : BitVec 32 := 0#32
  let v372 : BitVec 1 := Scalar.cmpi .eq c2_i32_137 c0_i32_138
  let c1_i32_139 : BitVec 32 := 1#32
  let v373 : BitVec 32 := Scalar.select v372 c1_i32_139 c2_i32_137
  let v374 : BitVec 32 := Scalar.remsi v337 v373
  let c0_i32_141 : BitVec 32 := 0#32
  let v376 : BitVec 1 := Scalar.cmpi .slt v374 c0_i32_141
  let c0_i32_142 : BitVec 32 := 0#32
  let v377 : BitVec 1 := Scalar.cmpi .slt v373 c0_i32_142
  let v378 : BitVec 1 := Scalar.xori v376 v377
  let c0_i32_140 : BitVec 32 := 0#32
  let v375 : BitVec 1 := Scalar.cmpi .ne v374 c0_i32_140
  let v379 : BitVec 1 := Scalar.andi v378 v375
  let v380 : BitVec 32 := Scalar.addi v374 v373
  let v381 : BitVec 32 := Scalar.select v379 v380 v374
  let c0_i32_143 : BitVec 32 := 0#32
  let v382 : BitVec 1 := Scalar.cmpi .eq v381 c0_i32_143
  let v383 : BitVec 32 := Scalar.extui v382
  let c0_i32_144 : BitVec 32 := 0#32
  let v384 : BitVec 1 := Scalar.cmpi .ne v383 c0_i32_144
  v384

def k0_off7 (i : grid0.Coords) : Fin 3 → Nat :=
  let arg2 : BitVec 32 := BitVec.ofNat 32 (i 2).val
  let c512_i32 : BitVec 32 := 512#32
  let v0 : BitVec 32 := Scalar.muli arg2 c512_i32
  let c0_i32_112 : BitVec 32 := 0#32
  let v322 : BitVec 1 := Scalar.cmpi .sgt v0 c0_i32_112
  let v323 : BitVec 32 := Scalar.extui v322
  let c0_i32_113 : BitVec 32 := 0#32
  let v324 : BitVec 1 := Scalar.cmpi .slt v0 c0_i32_113
  let v325 : BitVec 32 := Scalar.extui v324
  let v326 : BitVec 32 := Scalar.subi v323 v325
  let c512_i32_111 : BitVec 32 := 512#32
  let c0_i32_114 : BitVec 32 := 0#32
  let v327 : BitVec 1 := Scalar.cmpi .sgt c512_i32_111 c0_i32_114
  let v328 : BitVec 32 := Scalar.extui v327
  let c0_i32_115 : BitVec 32 := 0#32
  let v329 : BitVec 1 := Scalar.cmpi .slt c512_i32_111 c0_i32_115
  let v330 : BitVec 32 := Scalar.extui v329
  let v331 : BitVec 32 := Scalar.subi v328 v330
  let v332 : BitVec 1 := Scalar.cmpi .ne v326 v331
  let v333 : BitVec 32 := Scalar.remsi v0 c512_i32_111
  let c0_i32_116 : BitVec 32 := 0#32
  let v334 : BitVec 1 := Scalar.cmpi .ne v333 c0_i32_116
  let v335 : BitVec 1 := Scalar.andi v332 v334
  let v321 : BitVec 32 := Scalar.divsi v0 c512_i32_111
  let c1_i32_117 : BitVec 32 := 1#32
  let v336 : BitVec 32 := Scalar.subi v321 c1_i32_117
  let v337 : BitVec 32 := Scalar.select v335 v336 v321
  let c512_i32_257 : BitVec 32 := 512#32
  let v651 : BitVec 32 := Scalar.muli v337 c512_i32_257
  let v652 : BitVec 32 := Scalar.subi v0 v651
  let c0_i32_259 : BitVec 32 := 0#32
  let v654 : BitVec 1 := Scalar.cmpi .sgt v652 c0_i32_259
  let v655 : BitVec 32 := Scalar.extui v654
  let c0_i32_260 : BitVec 32 := 0#32
  let v656 : BitVec 1 := Scalar.cmpi .slt v652 c0_i32_260
  let v657 : BitVec 32 := Scalar.extui v656
  let v658 : BitVec 32 := Scalar.subi v655 v657
  let c512_i32_258 : BitVec 32 := 512#32
  let c0_i32_261 : BitVec 32 := 0#32
  let v659 : BitVec 1 := Scalar.cmpi .sgt c512_i32_258 c0_i32_261
  let v660 : BitVec 32 := Scalar.extui v659
  let c0_i32_262 : BitVec 32 := 0#32
  let v661 : BitVec 1 := Scalar.cmpi .slt c512_i32_258 c0_i32_262
  let v662 : BitVec 32 := Scalar.extui v661
  let v663 : BitVec 32 := Scalar.subi v660 v662
  let v664 : BitVec 1 := Scalar.cmpi .ne v658 v663
  let v665 : BitVec 32 := Scalar.remsi v652 c512_i32_258
  let c0_i32_263 : BitVec 32 := 0#32
  let v666 : BitVec 1 := Scalar.cmpi .ne v665 c0_i32_263
  let v667 : BitVec 1 := Scalar.andi v664 v666
  let v653 : BitVec 32 := Scalar.divsi v652 c512_i32_258
  let c1_i32_264 : BitVec 32 := 1#32
  let v668 : BitVec 32 := Scalar.subi v653 c1_i32_264
  let v669 : BitVec 32 := Scalar.select v667 v668 v653
  let v670 : Index := Scalar.indexCast v669
  let c0_265 : Index := 0#32
  let c0_266 : Index := 0#32
  ![v670.toNat, 0, 0]
def k0_off8 (i : grid0.Coords) (c0_i32_269 : BitVec 32) : Fin 5 → Nat :=
  let c0_270 : Index := 0#32
  let c0_271 : Index := 0#32
  let arg2 : BitVec 32 := BitVec.ofNat 32 (i 2).val
  let c512_i32 : BitVec 32 := 512#32
  let v0 : BitVec 32 := Scalar.muli arg2 c512_i32
  let c0_i32_112 : BitVec 32 := 0#32
  let v322 : BitVec 1 := Scalar.cmpi .sgt v0 c0_i32_112
  let v323 : BitVec 32 := Scalar.extui v322
  let c0_i32_113 : BitVec 32 := 0#32
  let v324 : BitVec 1 := Scalar.cmpi .slt v0 c0_i32_113
  let v325 : BitVec 32 := Scalar.extui v324
  let v326 : BitVec 32 := Scalar.subi v323 v325
  let c512_i32_111 : BitVec 32 := 512#32
  let c0_i32_114 : BitVec 32 := 0#32
  let v327 : BitVec 1 := Scalar.cmpi .sgt c512_i32_111 c0_i32_114
  let v328 : BitVec 32 := Scalar.extui v327
  let c0_i32_115 : BitVec 32 := 0#32
  let v329 : BitVec 1 := Scalar.cmpi .slt c512_i32_111 c0_i32_115
  let v330 : BitVec 32 := Scalar.extui v329
  let v331 : BitVec 32 := Scalar.subi v328 v330
  let v332 : BitVec 1 := Scalar.cmpi .ne v326 v331
  let v333 : BitVec 32 := Scalar.remsi v0 c512_i32_111
  let c0_i32_116 : BitVec 32 := 0#32
  let v334 : BitVec 1 := Scalar.cmpi .ne v333 c0_i32_116
  let v335 : BitVec 1 := Scalar.andi v332 v334
  let v321 : BitVec 32 := Scalar.divsi v0 c512_i32_111
  let c1_i32_117 : BitVec 32 := 1#32
  let v336 : BitVec 32 := Scalar.subi v321 c1_i32_117
  let v337 : BitVec 32 := Scalar.select v335 v336 v321
  let c4_i32_268 : BitVec 32 := 4#32
  let v682 : BitVec 32 := Scalar.muli v337 c4_i32_268
  let v683 : BitVec 32 := Scalar.addi v682 c0_i32_269
  let v684 : Index := Scalar.indexCast v683
  let c0_272 : Index := 0#32
  let c0_273 : Index := 0#32
  ![0, 0, v684.toNat, 0, 0]
def k0_mult6 (i : grid0.Coords) : BitVec 32 :=
  let arg2 : BitVec 32 := BitVec.ofNat 32 (i 2).val
  let c512_i32 : BitVec 32 := 512#32
  let v0 : BitVec 32 := Scalar.muli arg2 c512_i32
  let c0_i32_112 : BitVec 32 := 0#32
  let v322 : BitVec 1 := Scalar.cmpi .sgt v0 c0_i32_112
  let v323 : BitVec 32 := Scalar.extui v322
  let c0_i32_113 : BitVec 32 := 0#32
  let v324 : BitVec 1 := Scalar.cmpi .slt v0 c0_i32_113
  let v325 : BitVec 32 := Scalar.extui v324
  let v326 : BitVec 32 := Scalar.subi v323 v325
  let c512_i32_111 : BitVec 32 := 512#32
  let c0_i32_114 : BitVec 32 := 0#32
  let v327 : BitVec 1 := Scalar.cmpi .sgt c512_i32_111 c0_i32_114
  let v328 : BitVec 32 := Scalar.extui v327
  let c0_i32_115 : BitVec 32 := 0#32
  let v329 : BitVec 1 := Scalar.cmpi .slt c512_i32_111 c0_i32_115
  let v330 : BitVec 32 := Scalar.extui v329
  let v331 : BitVec 32 := Scalar.subi v328 v330
  let v332 : BitVec 1 := Scalar.cmpi .ne v326 v331
  let v333 : BitVec 32 := Scalar.remsi v0 c512_i32_111
  let c0_i32_116 : BitVec 32 := 0#32
  let v334 : BitVec 1 := Scalar.cmpi .ne v333 c0_i32_116
  let v335 : BitVec 1 := Scalar.andi v332 v334
  let v321 : BitVec 32 := Scalar.divsi v0 c512_i32_111
  let c1_i32_117 : BitVec 32 := 1#32
  let v336 : BitVec 32 := Scalar.subi v321 c1_i32_117
  let v337 : BitVec 32 := Scalar.select v335 v336 v321
  let c512_i32_255 : BitVec 32 := 512#32
  let v650 : BitVec 32 := Scalar.muli v337 c512_i32_255
  v650
def k0_off9 (i : grid0.Coords) : Fin 4 → Nat :=
  let c0_256 : Index := 0#32
  let c0_257 : Index := 0#32
  let arg2 : BitVec 32 := BitVec.ofNat 32 (i 2).val
  let c512_i32 : BitVec 32 := 512#32
  let v0 : BitVec 32 := Scalar.muli arg2 c512_i32
  let c0_i32_112 : BitVec 32 := 0#32
  let v322 : BitVec 1 := Scalar.cmpi .sgt v0 c0_i32_112
  let v323 : BitVec 32 := Scalar.extui v322
  let c0_i32_113 : BitVec 32 := 0#32
  let v324 : BitVec 1 := Scalar.cmpi .slt v0 c0_i32_113
  let v325 : BitVec 32 := Scalar.extui v324
  let v326 : BitVec 32 := Scalar.subi v323 v325
  let c512_i32_111 : BitVec 32 := 512#32
  let c0_i32_114 : BitVec 32 := 0#32
  let v327 : BitVec 1 := Scalar.cmpi .sgt c512_i32_111 c0_i32_114
  let v328 : BitVec 32 := Scalar.extui v327
  let c0_i32_115 : BitVec 32 := 0#32
  let v329 : BitVec 1 := Scalar.cmpi .slt c512_i32_111 c0_i32_115
  let v330 : BitVec 32 := Scalar.extui v329
  let v331 : BitVec 32 := Scalar.subi v328 v330
  let v332 : BitVec 1 := Scalar.cmpi .ne v326 v331
  let v333 : BitVec 32 := Scalar.remsi v0 c512_i32_111
  let c0_i32_116 : BitVec 32 := 0#32
  let v334 : BitVec 1 := Scalar.cmpi .ne v333 c0_i32_116
  let v335 : BitVec 1 := Scalar.andi v332 v334
  let v321 : BitVec 32 := Scalar.divsi v0 c512_i32_111
  let c1_i32_117 : BitVec 32 := 1#32
  let v336 : BitVec 32 := Scalar.subi v321 c1_i32_117
  let v337 : BitVec 32 := Scalar.select v335 v336 v321
  let c512_i32_255 : BitVec 32 := 512#32
  let v650 : BitVec 32 := Scalar.muli v337 c512_i32_255
  let v651 : BitVec 32 := v650
  let v652 : Index := Scalar.indexCast v651
  let c0_258 : Index := 0#32
  ![0, 0, v652.toNat, 0]
def k0_off10 (i : grid0.Coords) (c0_i32_267 : BitVec 32) : Fin 5 → Nat :=
  let c0_268 : Index := 0#32
  let c0_269 : Index := 0#32
  let arg2 : BitVec 32 := BitVec.ofNat 32 (i 2).val
  let c512_i32 : BitVec 32 := 512#32
  let v0 : BitVec 32 := Scalar.muli arg2 c512_i32
  let c0_i32_112 : BitVec 32 := 0#32
  let v322 : BitVec 1 := Scalar.cmpi .sgt v0 c0_i32_112
  let v323 : BitVec 32 := Scalar.extui v322
  let c0_i32_113 : BitVec 32 := 0#32
  let v324 : BitVec 1 := Scalar.cmpi .slt v0 c0_i32_113
  let v325 : BitVec 32 := Scalar.extui v324
  let v326 : BitVec 32 := Scalar.subi v323 v325
  let c512_i32_111 : BitVec 32 := 512#32
  let c0_i32_114 : BitVec 32 := 0#32
  let v327 : BitVec 1 := Scalar.cmpi .sgt c512_i32_111 c0_i32_114
  let v328 : BitVec 32 := Scalar.extui v327
  let c0_i32_115 : BitVec 32 := 0#32
  let v329 : BitVec 1 := Scalar.cmpi .slt c512_i32_111 c0_i32_115
  let v330 : BitVec 32 := Scalar.extui v329
  let v331 : BitVec 32 := Scalar.subi v328 v330
  let v332 : BitVec 1 := Scalar.cmpi .ne v326 v331
  let v333 : BitVec 32 := Scalar.remsi v0 c512_i32_111
  let c0_i32_116 : BitVec 32 := 0#32
  let v334 : BitVec 1 := Scalar.cmpi .ne v333 c0_i32_116
  let v335 : BitVec 1 := Scalar.andi v332 v334
  let v321 : BitVec 32 := Scalar.divsi v0 c512_i32_111
  let c1_i32_117 : BitVec 32 := 1#32
  let v336 : BitVec 32 := Scalar.subi v321 c1_i32_117
  let v337 : BitVec 32 := Scalar.select v335 v336 v321
  let c1_i32_262 : BitVec 32 := 1#32
  let v659 : BitVec 32 := Scalar.subi v337 c1_i32_262
  let c4_i32_266 : BitVec 32 := 4#32
  let v668 : BitVec 32 := Scalar.muli v659 c4_i32_266
  let v669 : BitVec 32 := Scalar.addi v668 c0_i32_267
  let v670 : Index := Scalar.indexCast v669
  let c0_270 : Index := 0#32
  let c0_271 : Index := 0#32
  ![0, 0, v670.toNat, 0, 0]
def k0_off11 (i : grid0.Coords) : Fin 3 → Nat :=
  let arg2 : BitVec 32 := BitVec.ofNat 32 (i 2).val
  let c512_i32 : BitVec 32 := 512#32
  let v0 : BitVec 32 := Scalar.muli arg2 c512_i32
  let c0_i32_112 : BitVec 32 := 0#32
  let v322 : BitVec 1 := Scalar.cmpi .sgt v0 c0_i32_112
  let v323 : BitVec 32 := Scalar.extui v322
  let c0_i32_113 : BitVec 32 := 0#32
  let v324 : BitVec 1 := Scalar.cmpi .slt v0 c0_i32_113
  let v325 : BitVec 32 := Scalar.extui v324
  let v326 : BitVec 32 := Scalar.subi v323 v325
  let c512_i32_111 : BitVec 32 := 512#32
  let c0_i32_114 : BitVec 32 := 0#32
  let v327 : BitVec 1 := Scalar.cmpi .sgt c512_i32_111 c0_i32_114
  let v328 : BitVec 32 := Scalar.extui v327
  let c0_i32_115 : BitVec 32 := 0#32
  let v329 : BitVec 1 := Scalar.cmpi .slt c512_i32_111 c0_i32_115
  let v330 : BitVec 32 := Scalar.extui v329
  let v331 : BitVec 32 := Scalar.subi v328 v330
  let v332 : BitVec 1 := Scalar.cmpi .ne v326 v331
  let v333 : BitVec 32 := Scalar.remsi v0 c512_i32_111
  let c0_i32_116 : BitVec 32 := 0#32
  let v334 : BitVec 1 := Scalar.cmpi .ne v333 c0_i32_116
  let v335 : BitVec 1 := Scalar.andi v332 v334
  let v321 : BitVec 32 := Scalar.divsi v0 c512_i32_111
  let c1_i32_117 : BitVec 32 := 1#32
  let v336 : BitVec 32 := Scalar.subi v321 c1_i32_117
  let v337 : BitVec 32 := Scalar.select v335 v336 v321
  let c512_i32_294 : BitVec 32 := 512#32
  let v698 : BitVec 32 := Scalar.muli v337 c512_i32_294
  let v699 : BitVec 32 := Scalar.subi v0 v698
  let c0_i32_296 : BitVec 32 := 0#32
  let v701 : BitVec 1 := Scalar.cmpi .sgt v699 c0_i32_296
  let v702 : BitVec 32 := Scalar.extui v701
  let c0_i32_297 : BitVec 32 := 0#32
  let v703 : BitVec 1 := Scalar.cmpi .slt v699 c0_i32_297
  let v704 : BitVec 32 := Scalar.extui v703
  let v705 : BitVec 32 := Scalar.subi v702 v704
  let c512_i32_295 : BitVec 32 := 512#32
  let c0_i32_298 : BitVec 32 := 0#32
  let v706 : BitVec 1 := Scalar.cmpi .sgt c512_i32_295 c0_i32_298
  let v707 : BitVec 32 := Scalar.extui v706
  let c0_i32_299 : BitVec 32 := 0#32
  let v708 : BitVec 1 := Scalar.cmpi .slt c512_i32_295 c0_i32_299
  let v709 : BitVec 32 := Scalar.extui v708
  let v710 : BitVec 32 := Scalar.subi v707 v709
  let v711 : BitVec 1 := Scalar.cmpi .ne v705 v710
  let v712 : BitVec 32 := Scalar.remsi v699 c512_i32_295
  let c0_i32_300 : BitVec 32 := 0#32
  let v713 : BitVec 1 := Scalar.cmpi .ne v712 c0_i32_300
  let v714 : BitVec 1 := Scalar.andi v711 v713
  let v700 : BitVec 32 := Scalar.divsi v699 c512_i32_295
  let c1_i32_301 : BitVec 32 := 1#32
  let v715 : BitVec 32 := Scalar.subi v700 c1_i32_301
  let v716 : BitVec 32 := Scalar.select v714 v715 v700
  let v717 : Index := Scalar.indexCast v716
  let c0_302 : Index := 0#32
  let c0_303 : Index := 0#32
  ![v717.toNat, 0, 0]
def k0_off12 (i : grid0.Coords) (c0_i32_306 : BitVec 32) : Fin 5 → Nat :=
  let c0_307 : Index := 0#32
  let c0_308 : Index := 0#32
  let arg2 : BitVec 32 := BitVec.ofNat 32 (i 2).val
  let c512_i32 : BitVec 32 := 512#32
  let v0 : BitVec 32 := Scalar.muli arg2 c512_i32
  let c0_i32_112 : BitVec 32 := 0#32
  let v322 : BitVec 1 := Scalar.cmpi .sgt v0 c0_i32_112
  let v323 : BitVec 32 := Scalar.extui v322
  let c0_i32_113 : BitVec 32 := 0#32
  let v324 : BitVec 1 := Scalar.cmpi .slt v0 c0_i32_113
  let v325 : BitVec 32 := Scalar.extui v324
  let v326 : BitVec 32 := Scalar.subi v323 v325
  let c512_i32_111 : BitVec 32 := 512#32
  let c0_i32_114 : BitVec 32 := 0#32
  let v327 : BitVec 1 := Scalar.cmpi .sgt c512_i32_111 c0_i32_114
  let v328 : BitVec 32 := Scalar.extui v327
  let c0_i32_115 : BitVec 32 := 0#32
  let v329 : BitVec 1 := Scalar.cmpi .slt c512_i32_111 c0_i32_115
  let v330 : BitVec 32 := Scalar.extui v329
  let v331 : BitVec 32 := Scalar.subi v328 v330
  let v332 : BitVec 1 := Scalar.cmpi .ne v326 v331
  let v333 : BitVec 32 := Scalar.remsi v0 c512_i32_111
  let c0_i32_116 : BitVec 32 := 0#32
  let v334 : BitVec 1 := Scalar.cmpi .ne v333 c0_i32_116
  let v335 : BitVec 1 := Scalar.andi v332 v334
  let v321 : BitVec 32 := Scalar.divsi v0 c512_i32_111
  let c1_i32_117 : BitVec 32 := 1#32
  let v336 : BitVec 32 := Scalar.subi v321 c1_i32_117
  let v337 : BitVec 32 := Scalar.select v335 v336 v321
  let c4_i32_305 : BitVec 32 := 4#32
  let v729 : BitVec 32 := Scalar.muli v337 c4_i32_305
  let v730 : BitVec 32 := Scalar.addi v729 c0_i32_306
  let v731 : Index := Scalar.indexCast v730
  let c0_309 : Index := 0#32
  let c0_310 : Index := 0#32
  ![0, 0, v731.toNat, 0, 0]
def k0_mult7 (i : grid0.Coords) : BitVec 32 :=
  let arg2 : BitVec 32 := BitVec.ofNat 32 (i 2).val
  let c512_i32 : BitVec 32 := 512#32
  let v0 : BitVec 32 := Scalar.muli arg2 c512_i32
  let c512_i32_145 : BitVec 32 := 512#32
  let v390 : BitVec 32 := Scalar.subi v0 c512_i32_145
  let c0_i32_146 : BitVec 32 := 0#32
  let v391 : BitVec 32 := Scalar.maxsi v390 c0_i32_146
  v391
def k0_off13 (i : grid0.Coords) : Fin 3 → Nat :=
  let arg2 : BitVec 32 := BitVec.ofNat 32 (i 2).val
  let c1_i32_147 : BitVec 32 := 1#32
  let v393 : BitVec 32 := Scalar.minsi arg2 c1_i32_147
  let v394 : Index := Scalar.indexCast v393
  let c0_148 : Index := 0#32
  let c0_149 : Index := 0#32
  ![v394.toNat, 0, 0]
def k0_off14 (i : grid0.Coords) : Fin 4 → Nat :=
  let c0_150 : Index := 0#32
  let c0_151 : Index := 0#32
  let arg2 : BitVec 32 := BitVec.ofNat 32 (i 2).val
  let c512_i32 : BitVec 32 := 512#32
  let v0 : BitVec 32 := Scalar.muli arg2 c512_i32
  let c512_i32_145 : BitVec 32 := 512#32
  let v390 : BitVec 32 := Scalar.subi v0 c512_i32_145
  let c0_i32_146 : BitVec 32 := 0#32
  let v391 : BitVec 32 := Scalar.maxsi v390 c0_i32_146
  let v392 : BitVec 32 := v391
  let v397 : Index := Scalar.indexCast v392
  let c0_152 : Index := 0#32
  ![0, 0, v397.toNat, 0]
def k0_off15 (i : grid0.Coords) (c0_i32_162 : BitVec 32) : Fin 5 → Nat :=
  let c0_163 : Index := 0#32
  let c0_164 : Index := 0#32
  let arg2 : BitVec 32 := BitVec.ofNat 32 (i 2).val
  let c512_i32 : BitVec 32 := 512#32
  let v0 : BitVec 32 := Scalar.muli arg2 c512_i32
  let c512_i32_145 : BitVec 32 := 512#32
  let v390 : BitVec 32 := Scalar.subi v0 c512_i32_145
  let c0_i32_146 : BitVec 32 := 0#32
  let v391 : BitVec 32 := Scalar.maxsi v390 c0_i32_146
  let v392 : BitVec 32 := v391
  let c0_i32_156 : BitVec 32 := 0#32
  let v410 : BitVec 1 := Scalar.cmpi .sgt v392 c0_i32_156
  let v411 : BitVec 32 := Scalar.extui v410
  let c0_i32_157 : BitVec 32 := 0#32
  let v412 : BitVec 1 := Scalar.cmpi .slt v392 c0_i32_157
  let v413 : BitVec 32 := Scalar.extui v412
  let v414 : BitVec 32 := Scalar.subi v411 v413
  let c128_i32_155 : BitVec 32 := 128#32
  let c0_i32_158 : BitVec 32 := 0#32
  let v415 : BitVec 1 := Scalar.cmpi .sgt c128_i32_155 c0_i32_158
  let v416 : BitVec 32 := Scalar.extui v415
  let c0_i32_159 : BitVec 32 := 0#32
  let v417 : BitVec 1 := Scalar.cmpi .slt c128_i32_155 c0_i32_159
  let v418 : BitVec 32 := Scalar.extui v417
  let v419 : BitVec 32 := Scalar.subi v416 v418
  let v420 : BitVec 1 := Scalar.cmpi .ne v414 v419
  let v421 : BitVec 32 := Scalar.remsi v392 c128_i32_155
  let c0_i32_160 : BitVec 32 := 0#32
  let v422 : BitVec 1 := Scalar.cmpi .ne v421 c0_i32_160
  let v423 : BitVec 1 := Scalar.andi v420 v422
  let v409 : BitVec 32 := Scalar.divsi v392 c128_i32_155
  let c1_i32_161 : BitVec 32 := 1#32
  let v424 : BitVec 32 := Scalar.subi v409 c1_i32_161
  let v425 : BitVec 32 := Scalar.select v423 v424 v409
  let v426 : BitVec 32 := Scalar.addi v425 c0_i32_162
  let v427 : Index := Scalar.indexCast v426
  let c0_165 : Index := 0#32
  let c0_166 : Index := 0#32
  ![0, 0, v427.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x64x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x8192x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x64x64x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S2x1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== KernelIdeal.lean ====
variable {F : FTy → Type} [FloatOps F] [Named F]
def κ : String → Option EReal := fun
  | "mask" => some ⊥
  | "start" => some ⊥
  | _ => none
-- ==== ReferenceIdeal.lean ====
abbrev S2x8192x4x4x64 : Shape := ⟨5, ![2, 8192, 4, 4, 64]⟩
abbrev S2x512x4x64 : Shape := ⟨4, ![2, 512, 4, 64]⟩
abbrev S2x8192x4x64 : Shape := ⟨4, ![2, 8192, 4, 64]⟩
abbrev S2x8192x4x4x3 : Shape := ⟨5, ![2, 8192, 4, 4, 3]⟩
abbrev S8192 : Shape := ⟨1, ![8192]⟩
abbrev S512 : Shape := ⟨1, ![512]⟩
abbrev S_ : Shape := ⟨0, ![]⟩
abbrev S1x512 : Shape := ⟨2, ![1, 512]⟩
abbrev S8192x1 : Shape := ⟨2, ![8192, 1]⟩
abbrev S8192x512 : Shape := ⟨2, ![8192, 512]⟩
abbrev S1x8192x1x1x512 : Shape := ⟨5, ![1, 8192, 1, 1, 512]⟩
abbrev S2x4x512x8192x4 : Shape := ⟨5, ![2, 4, 512, 8192, 4]⟩
abbrev S2x8192x4x4x512 : Shape := ⟨5, ![2, 8192, 4, 4, 512]⟩
abbrev S2x8192x4x4 : Shape := ⟨4, ![2, 8192, 4, 4]⟩
abbrev S2x8192x4x4x1 : Shape := ⟨5, ![2, 8192, 4, 4, 1]⟩
abbrev S2x4x64x8192x4 : Shape := ⟨5, ![2, 4, 64, 8192, 4]⟩
abbrev S1x8192 : Shape := ⟨2, ![1, 8192]⟩
abbrev S8192x8192 : Shape := ⟨2, ![8192, 8192]⟩
abbrev S1x8192x1x1x8192 : Shape := ⟨5, ![1, 8192, 1, 1, 8192]⟩
abbrev S2x4x8192x8192x4 : Shape := ⟨5, ![2, 4, 8192, 8192, 4]⟩
abbrev S2x8192x4x4x8192 : Shape := ⟨5, ![2, 8192, 4, 4, 8192]⟩
abbrev S2x8192x1024 : Shape := ⟨3, ![2, 8192, 1024]⟩

abbrev nBuf : Space → Nat
  | .hbm => 132
  | .vmem => 0
  | .smem => 0
  | _ => 0

abbrev hbmTy0_0 (i : Nat) : BufTy := match i % 128 with
  | 0 => ⟨S2x8192x4x4x64, .f32⟩
  | 1 => ⟨S2x512x4x64, .f32⟩
  | 2 => ⟨S2x512x4x64, .f32⟩
  | 3 => ⟨S2x8192x4x64, .f32⟩
  | 4 => ⟨S2x8192x4x64, .f32⟩
  | 5 => ⟨S2x8192x4x64, .f32⟩
  | 6 => ⟨S2x8192x4x64, .f32⟩
  | 7 => ⟨S2x8192x4x4x3, .f32⟩
  | 8 => ⟨S8192, .i32⟩
  | 9 => ⟨S512, .i32⟩
  | 10 => ⟨S_, .i32⟩
  | 11 => ⟨S512, .i32⟩
  | 12 => ⟨S512, .i32⟩
  | 13 => ⟨S_, .i32⟩
  | 14 => ⟨S512, .i32⟩
  | 15 => ⟨S512, .i32⟩
  | 16 => ⟨S1x512, .i32⟩
  | 17 => ⟨S8192x1, .i32⟩
  | 18 => ⟨S8192x512, .i32⟩
  | 19 => ⟨S8192x512, .i32⟩
  | 20 => ⟨S8192x512, .i1⟩
  | 21 => ⟨S1x8192x1x1x512, .i1⟩
  | 22 => ⟨S2x4x512x8192x4, .f32⟩
  | 23 => ⟨S2x8192x4x4x512, .f32⟩
  | 24 => ⟨S_, .f32⟩
  | 25 => ⟨S2x8192x4x4x512, .f32⟩
  | 26 => ⟨S2x8192x4x4x512, .f32⟩
  | 27 => ⟨S_, .f32⟩
  | 28 => ⟨S_, .f32⟩
  | 29 => ⟨S2x8192x4x4x512, .i1⟩
  | 30 => ⟨S2x8192x4x4x512, .f32⟩
  | 31 => ⟨S2x8192x4x4x512, .f32⟩
  | 32 => ⟨S_, .f32⟩
  | 33 => ⟨S2x8192x4x4, .f32⟩
  | 34 => ⟨S2x8192x4x4x1, .f32⟩
  | 35 => ⟨S2x8192x4x4x1, .f32⟩
  | 36 => ⟨S_, .f32⟩
  | 37 => ⟨S2x8192x4x4x1, .f32⟩
  | 38 => ⟨S2x8192x4x4x1, .i1⟩
  | 39 => ⟨S_, .f32⟩
  | 40 => ⟨S_, .f32⟩
  | 41 => ⟨S2x8192x4x4x1, .f32⟩
  | 42 => ⟨S2x8192x4x4x1, .f32⟩
  | 43 => ⟨S2x8192x4x4x512, .f32⟩
  | 44 => ⟨S2x8192x4x4x512, .f32⟩
  | 45 => ⟨S2x8192x4x4x512, .f32⟩
  | 46 => ⟨S_, .f32⟩
  | 47 => ⟨S_, .f32⟩
  | 48 => ⟨S2x8192x4x4x512, .i1⟩
  | 49 => ⟨S2x8192x4x4x512, .f32⟩
  | 50 => ⟨S2x8192x4x4x512, .f32⟩
  | 51 => ⟨S_, .f32⟩
  | 52 => ⟨S2x8192x4x4, .f32⟩
  | 53 => ⟨S2x8192x4x4x1, .f32⟩
  | 54 => ⟨S_, .f32⟩
  | 55 => ⟨S2x8192x4x4x1, .f32⟩
  | 56 => ⟨S2x8192x4x4x1, .f32⟩
  | 57 => ⟨S2x8192x4x4x512, .f32⟩
  | 58 => ⟨S2x8192x4x4x512, .f32⟩
  | 59 => ⟨S2x4x64x8192x4, .f32⟩
  | 60 => ⟨S2x8192x4x4x64, .f32⟩
  | 61 => ⟨S1x8192, .i32⟩
  | 62 => ⟨S8192x1, .i32⟩
  | 63 => ⟨S8192x8192, .i32⟩
  | 64 => ⟨S8192x8192, .i32⟩
  | 65 => ⟨S8192x8192, .i1⟩
  | 66 => ⟨S1x8192, .i32⟩
  | 67 => ⟨S8192x1, .i32⟩
  | 68 => ⟨S_, .i32⟩
  | 69 => ⟨S8192x1, .i32⟩
  | 70 => ⟨S8192x1, .i32⟩
  | 71 => ⟨S8192x8192, .i32⟩
  | 72 => ⟨S8192x8192, .i32⟩
  | 73 => ⟨S8192x8192, .i1⟩
  | 74 => ⟨S8192x8192, .i1⟩
  | 75 => ⟨S1x8192x1x1x8192, .i1⟩
  | 76 => ⟨S2x4x8192x8192x4, .f32⟩
  | 77 => ⟨S2x8192x4x4x8192, .f32⟩
  | 78 => ⟨S_, .f32⟩
  | 79 => ⟨S2x8192x4x4x8192, .f32⟩
  | 80 => ⟨S2x8192x4x4x8192, .f32⟩
  | 81 => ⟨S_, .f32⟩
  | 82 => ⟨S_, .f32⟩
  | 83 => ⟨S2x8192x4x4x8192, .i1⟩
  | 84 => ⟨S2x8192x4x4x8192, .f32⟩
  | 85 => ⟨S2x8192x4x4x8192, .f32⟩
  | 86 => ⟨S_, .f32⟩
  | 87 => ⟨S2x8192x4x4, .f32⟩
  | 88 => ⟨S2x8192x4x4x1, .f32⟩
  | 89 => ⟨S2x8192x4x4x1, .f32⟩
  | 90 => ⟨S_, .f32⟩
  | 91 => ⟨S2x8192x4x4x1, .f32⟩
  | 92 => ⟨S2x8192x4x4x1, .i1⟩
  | 93 => ⟨S_, .f32⟩
  | 94 => ⟨S_, .f32⟩
  | 95 => ⟨S2x8192x4x4x1, .f32⟩
  | 96 => ⟨S2x8192x4x4x1, .f32⟩
  | 97 => ⟨S2x8192x4x4x8192, .f32⟩
  | 98 => ⟨S2x8192x4x4x8192, .f32⟩
  | 99 => ⟨S2x8192x4x4x8192, .f32⟩
  | 100 => ⟨S_, .f32⟩
  | 101 => ⟨S_, .f32⟩
  | 102 => ⟨S2x8192x4x4x8192, .i1⟩
  | 103 => ⟨S2x8192x4x4x8192, .f32⟩
  | 104 => ⟨S2x8192x4x4x8192, .f32⟩
  | 105 => ⟨S_, .f32⟩
  | 106 => ⟨S2x8192x4x4, .f32⟩
  | 107 => ⟨S2x8192x4x4x1, .f32⟩
  | 108 => ⟨S_, .f32⟩
  | 109 => ⟨S2x8192x4x4x1, .f32⟩
  | 110 => ⟨S2x8192x4x4x1, .f32⟩
  | 111 => ⟨S2x8192x4x4x8192, .f32⟩
  | 112 => ⟨S2x8192x4x4x8192, .f32⟩
  | 113 => ⟨S2x4x64x8192x4, .f32⟩
  | 114 => ⟨S2x8192x4x4x64, .f32⟩
  | 115 => ⟨S2x8192x4x4x3, .f32⟩
  | 116 => ⟨S2x8192x4x4x3, .f32⟩
  | 117 => ⟨S_, .f32⟩
  | 118 => ⟨S2x8192x4x4x3, .f32⟩
  | 119 => ⟨S2x8192x4x4x3, .f32⟩
  | 120 => ⟨S_, .f32⟩
  | 121 => ⟨S2x8192x4x4x3, .f32⟩
  | 122 => ⟨S2x8192x4x4x3, .f32⟩
  | 123 => ⟨S2x8192x4x4x1, .f32⟩
  | 124 => ⟨S2x8192x4x4x64, .f32⟩
  | 125 => ⟨S2x8192x4x4x64, .f32⟩
  | 126 => ⟨S2x8192x4x4x1, .f32⟩
  | 127 => ⟨S2x8192x4x4x64, .f32⟩
  | _ => ⟨S2x8192x4x4x64, .f32⟩

abbrev hbmTy0_1 (i : Nat) : BufTy := match i % 128 with
  | 0 => ⟨S2x8192x4x4x64, .f32⟩
  | 1 => ⟨S2x8192x4x4x64, .f32⟩
  | 2 => ⟨S2x8192x1024, .f32⟩
  | 3 => ⟨S2x8192x1024, .bf16⟩
  | _ => ⟨S2x8192x4x4x64, .f32⟩

abbrev hbmTy (i : Nat) : BufTy := match i / 128 with
  | 0 => hbmTy0_0 i
  | 1 => hbmTy0_1 i
  | _ => ⟨S2x8192x4x4x64, .f32⟩

abbrev bufTy : (tb : Table) → Fin (tcTables nBuf tb) → BufTy
  | .hbm, ⟨i, _⟩ => hbmTy i
  | _, _ => ⟨S2x8192x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v53 : Ref sig .tc := ⟨.hbm, 85, rfl⟩
abbrev main_cst_11 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_12 : Ref sig .tc := ⟨.hbm, 90, rfl⟩
abbrev main_v57 : Ref sig .tc := ⟨.hbm, 91, rfl⟩
abbrev main_v58 : Ref sig .tc := ⟨.hbm, 92, rfl⟩
abbrev main_cst_13 : Ref sig .tc := ⟨.hbm, 93, rfl⟩
abbrev main_call4_v0 : Ref sig .tc := ⟨.hbm, 94, rfl⟩
abbrev main_call4_v1 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_14 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_v63 : Ref sig .tc := ⟨.hbm, 104, rfl⟩
abbrev main_cst_15 : Ref sig .tc := ⟨.hbm, 105, rfl⟩
abbrev main_v64 : Ref sig .tc := ⟨.hbm, 106, rfl⟩
abbrev main_v65 : Ref sig .tc := ⟨.hbm, 107, rfl⟩
abbrev main_cst_16 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_17 : Ref sig .tc := ⟨.hbm, 117, rfl⟩
abbrev main_v74 : Ref sig .tc := ⟨.hbm, 118, rfl⟩
abbrev main_v75 : Ref sig .tc := ⟨.hbm, 119, rfl⟩
abbrev main_cst_18 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩

abbrev nD : Nat := 1
abbrev τ : Topo := Topo.v7x

variable {F : FTy → Type} [FloatOps F]
-- ==== KernelFfn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfnIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Proof.Bits.Body.lean ====
/-
  One run of the kernel's body: from the blocks at their contents, the block of results ends at `blockOut` of them and the
  two score buffers at something.
-/
module

public import proofs.«01_k».proof.Proof.Bits.Vals
public import proofs.«01_k».proof.Proof.Bits.Loop

@[expose] public section

set_option maxRecDepth 16384

noncomputable section

namespace Cert.Proof.Bits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second loop makes no trip. -/
theorem trips2 : ∀ i : grid0.Coords, (k0_t2_loop i).trips = 0 := by decide +kernel

abbrev rOut : Rect S1x512x256 := Rect.unit (s := S1x512x256) ![0, 0, 0] S1x512x256.size inb_S1x512x256_S1x512x256_0_0_0

/-- What the body leaves in the window of results: its one store. -/
def out (i : grid0.Coords) (X : Ins F) : Vec F S1x512x256 .bf16 := View.canon [⟨rOut, blockOut i X⟩]

theorem cover (p : Vec F S1x512x256 .bf16) (y : S1x512x256.Idx) :
    ∃ pc ∈ ([⟨rOut, p⟩] : List (View.Piece (Elt F) S1x512x256 .bf16)), y ∈ pc.1.set :=
  View.cover_of_tiled [⟨rOut, p⟩] S1x512x256.size (by rfl) y

set_option maxHeartbeats 8000000 in
/-- The run when the last tile's number is even: the waiting tile is the diagonal one. -/
theorem sound_even (c : Dev nD) (E : Set ℕ) (i : grid0.Coords) (arg3 : Memref sig .tc .vmem S1x4x64x512 .bf16) (harg3 : arg3.IsWhole) (arg4 : Memref sig .tc .vmem S1x1x512x64 .bf16) (harg4 : arg4.IsWhole) (arg5 : Memref sig .tc .vmem S1x1x64x512 .bf16) (harg5 : arg5.IsWhole) (arg6 : Memref sig .tc .vmem S1x1x8192x256 .bf16) (harg6 : arg6.IsWhole) (arg7 : Memref sig .tc .vmem S1x1x64x64x128 .bf16) (harg7 : arg7.IsWhole) (arg8 : Memref sig .tc .vmem S1x1x8192x64 .bf16) (harg8 : arg8.IsWhole) (arg9 : Memref sig .tc .vmem S1x1x64x64x128 .bf16) (harg9 : arg9.IsWhole) (arg10 : Memref sig .tc .vmem S1x1x16x512 .f32) (harg10 : arg10.IsWhole) (arg11 : Memref sig .tc .vmem S128x512 .bf16) (harg11 : arg11.IsWhole) (arg12 : Memref sig .tc .vmem S2x1024x512 .f32) (harg12 : arg12.IsWhole) (arg13 : Memref sig .tc .vmem S1x512x512 .f32) (harg13 : arg13.IsWhole) (arg14 : Memref sig .tc .vmem S1x512x256 .bf16) (harg14 : arg14.IsWhole) (arg15 : Memref sig .tc .vmem S512x2048 .f32) (harg15 : arg15.IsWhole) (arg16 : Memref sig .tc .vmem S512x2048 .f32) (harg16 : arg16.IsWhole)
    (x3 : Vec F S1x4x64x512 .bf16) (x4 : Vec F S1x1x512x64 .bf16) (x5 : Vec F S1x1x64x512 .bf16) (x6 : Vec F S1x1x8192x256 .bf16) (x7 : Vec F S1x1x64x64x128 .bf16) (x8 : Vec F S1x1x8192x64 .bf16) (x9 : Vec F S1x1x64x64x128 .bf16) (x10 : Vec F S1x1x16x512 .f32) (x11 : Vec F S128x512 .bf16) (x12 : Vec F S2x1024x512 .f32) (x13 : Vec F S1x512x512 .f32) (hc : k0_cond1 i = 1#1) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
        ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ owns (c : Thread nD τ) arg14 fullShare (out i ⟨x3, x4, x5, x6, x7, x8, x9, x10, x11, x12, x13⟩) ∗ (∃ d, owns (c : Thread nD τ) arg15 fullShare d) ∗ (∃ d, owns (c : Thread nD τ) arg16 fullShare d)) -∗ K ⟨⟩))
      ⊢ wp frame (wpE (defs₀ (F := F)) Variants.none c none) E (cc0_nsa_attn i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_nsa_attn_eq_skeleton]; unfold cc0_nsa_attn_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
  subst hf3 hf4 hf5 hf6 hf7 hf8 hf9 hf10 hf11 hf12 hf13
  have htr := trips2 i
  sl_exec (disch := sl_exact hc)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover _)).trans ?_
    have hst : st i (sound_even.sl.r_18 c i arg3 arg4 arg11 f3 f4 f11) (arg6.view.read (Elt F) f6) (arg7.view.read (Elt F) f7)
        ⟨k0_pay62, k0_pay63, arg15.view.read (Elt F) (arg15.view.writes (Elt F) arg15.view.junk (sound_even.sl.H15_1 c i arg3 arg4 arg6 arg11 f3 f4 f6 f11))⟩
        (k0_t1_loop i).trips = stN i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩) := by
      unfold sound_even.sl.H15_1
      rw [read_writes_whole]
      rfl
    have hrd : arg15.view.readAt (Elt F) (Rect.unit (s := S512x2048) ![0, 0] S512x2048.size inb_S512x2048_S512x2048_0_0).toLoadRect fL0
        = (stN i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩)).tile := (ld_whole _).trans (hL3.trans (congrArg St.tile hst))
    have h1 : sound_even.sl.r_19 c i arg3 arg4 arg6 arg7 arg11 arg15 f3 f4 f6 f7 f11 = (stN i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩)).mx := congrArg St.mx hst
    have h2 : sound_even.sl.r_20 c i arg3 arg4 arg6 arg7 arg11 arg15 f3 f4 f6 f7 f11 = (stN i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩)).acc := congrArg St.acc hst
    have h389 : sound_even.sl.r_24 c i arg3 arg4 arg6 arg7 arg11 arg13 arg15 hc f3 f4 f6 f7 f11 f13 fL0 = osel i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩) := by
      unfold osel accN
      rw [dif_pos hc]
      unfold sound_even.sl.r_24 sound_even.sl.r_21 sound_even.sl.r_22 sound_even.sl.r_23
      rw [h1, h2, hrd]
      rfl
    unfold sound_even.sl.r_30 sound_even.sl.r_29 sound_even.sl.r_28 sound_even.sl.r_26
    rw [h389]
    rfl
  isplitl [H15]
  · iexists _; iexists _; isplitr
    swap; · iexact H15
    ipureintro; rfl
  iexists _; iexists _; isplitr
  swap; · iexact H16
  ipureintro; rfl

set_option maxHeartbeats 8000000 in
/-- The run when the last tile's number is odd. -/
theorem sound_odd (c : Dev nD) (E : Set ℕ) (i : grid0.Coords) (arg3 : Memref sig .tc .vmem S1x4x64x512 .bf16) (harg3 : arg3.IsWhole) (arg4 : Memref sig .tc .vmem S1x1x512x64 .bf16) (harg4 : arg4.IsWhole) (arg5 : Memref sig .tc .vmem S1x1x64x512 .bf16) (harg5 : arg5.IsWhole) (arg6 : Memref sig .tc .vmem S1x1x8192x256 .bf16) (harg6 : arg6.IsWhole) (arg7 : Memref sig .tc .vmem S1x1x64x64x128 .bf16) (harg7 : arg7.IsWhole) (arg8 : Memref sig .tc .vmem S1x1x8192x64 .bf16) (harg8 : arg8.IsWhole) (arg9 : Memref sig .tc .vmem S1x1x64x64x128 .bf16) (harg9 : arg9.IsWhole) (arg10 : Memref sig .tc .vmem S1x1x16x512 .f32) (harg10 : arg10.IsWhole) (arg11 : Memref sig .tc .vmem S128x512 .bf16) (harg11 : arg11.IsWhole) (arg12 : Memref sig .tc .vmem S2x1024x512 .f32) (harg12 : arg12.IsWhole) (arg13 : Memref sig .tc .vmem S1x512x512 .f32) (harg13 : arg13.IsWhole) (arg14 : Memref sig .tc .vmem S1x512x256 .bf16) (harg14 : arg14.IsWhole) (arg15 : Memref sig .tc .vmem S512x2048 .f32) (harg15 : arg15.IsWhole) (arg16 : Memref sig .tc .vmem S512x2048 .f32) (harg16 : arg16.IsWhole)
    (x3 : Vec F S1x4x64x512 .bf16) (x4 : Vec F S1x1x512x64 .bf16) (x5 : Vec F S1x1x64x512 .bf16) (x6 : Vec F S1x1x8192x256 .bf16) (x7 : Vec F S1x1x64x64x128 .bf16) (x8 : Vec F S1x1x8192x64 .bf16) (x9 : Vec F S1x1x64x64x128 .bf16) (x10 : Vec F S1x1x16x512 .f32) (x11 : Vec F S128x512 .bf16) (x12 : Vec F S2x1024x512 .f32) (x13 : Vec F S1x512x512 .f32) (hc : ¬ k0_cond1 i = 1#1) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
        ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ owns (c : Thread nD τ) arg14 fullShare (out i ⟨x3, x4, x5, x6, x7, x8, x9, x10, x11, x12, x13⟩) ∗ (∃ d, owns (c : Thread nD τ) arg15 fullShare d) ∗ (∃ d, owns (c : Thread nD τ) arg16 fullShare d)) -∗ K ⟨⟩))
      ⊢ wp frame (wpE (defs₀ (F := F)) Variants.none c none) E (cc0_nsa_attn i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_nsa_attn_eq_skeleton]; unfold cc0_nsa_attn_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
  subst hf3 hf4 hf5 hf6 hf7 hf8 hf9 hf10 hf11 hf12 hf13
  have htr := trips2 i
  sl_exec (disch := sl_exact hc)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover _)).trans ?_
    have hst : st i (sound_odd.sl.r_18 c i arg3 arg4 arg11 f3 f4 f11) (arg6.view.read (Elt F) f6) (arg7.view.read (Elt F) f7)
        ⟨k0_pay62, k0_pay63, arg15.view.read (Elt F) (arg15.view.writes (Elt F) arg15.view.junk (sound_odd.sl.H15_1 c i arg3 arg4 arg6 arg11 f3 f4 f6 f11))⟩
        (k0_t1_loop i).trips = stN i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩) := by
      unfold sound_odd.sl.H15_1
      rw [read_writes_whole]
      rfl
    have hrd : arg15.view.readAt (Elt F) (Rect.unit (s := S512x2048) ![0, 0] S512x2048.size inb_S512x2048_S512x2048_0_0).toLoadRect fL0
        = (stN i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩)).tile := (ld_whole _).trans (hL3.trans (congrArg St.tile hst))
    have h1 : sound_odd.sl.r_19 c i arg3 arg4 arg6 arg7 arg11 arg15 f3 f4 f6 f7 f11 = (stN i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩)).mx := congrArg St.mx hst
    have h2 : sound_odd.sl.r_20 c i arg3 arg4 arg6 arg7 arg11 arg15 f3 f4 f6 f7 f11 = (stN i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩)).acc := congrArg St.acc hst
    have ho : sound_odd.sl.v697 c i arg3 arg4 arg6 arg11 arg16 hc f3 f4 f6 f11 = oddDiag i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩) hc := readCov_whole _ _ _
    have h389 : sound_odd.sl.r_30 c i arg3 arg4 arg6 arg7 arg11 arg13 arg15 arg16 hc f3 f4 f6 f7 f11 f13 fL0 = osel i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩) := by
      unfold osel accN
      rw [dif_neg hc]
      unfold sound_odd.sl.r_30 sound_odd.sl.r_29 sound_odd.sl.r_28 sound_odd.sl.r_27 sound_odd.sl.r_26 sound_odd.sl.r_25 sound_odd.sl.r_24 sound_odd.sl.r_23 sound_odd.sl.r_22 sound_odd.sl.r_21
      rw [h1, h2, hrd, ho]
      rfl
    unfold sound_odd.sl.r_36 sound_odd.sl.r_35 sound_odd.sl.r_34 sound_odd.sl.r_32
    rw [h389]
    rfl
  isplitl [H15]
  · iexists _; iexists _; isplitr
    swap; · iexact H15
    ipureintro; rfl
  iexists _; iexists _; isplitr
  swap; · iexact H16
  ipureintro; rfl

end Cert.Proof.Bits

end
-- ==== Proof.Ideal.Vals.lean ====
/-
  What one run of the attention kernel computes, written as functions of the blocks it reads: the selection, the loop over
  pairs of key tiles (the carry and the tile of scores left for the next trip), the two tails, the window branch, and the
  block of results. Every pure step is one of the program's own payloads (`k0_payN`); this module only says which values
  they are given.
-/
module

public import proofs.«01_k».proof.Proof.Gen.KernelIdeal.Frame
public import proofs.«01_k».proof.Proof.Gen.KernelIdeal.Skeleton

@[expose] public section

set_option maxRecDepth 16384

noncomputable section

namespace Cert.Proof.Ideal

open Cert.KernelIdeal Cert.KernelIdeal.Gen
open Idealize.ShloMosaic

variable {F : FTy → Type} [FloatOps F] [Named F]

/-- The blocks of the eleven operands at one grid point. -/
structure Ins (F : FTy → Type) where
  q : Vec F S1x4x64x512 .bf16
  kc : Vec F S1x1x512x64 .bf16
  vc : Vec F S1x1x64x512 .bf16
  ka : Vec F S1x1x8192x256 .bf16
  vst : Vec F S1x1x64x64x128 .bf16
  kw : Vec F S1x1x8192x64 .bf16
  vw : Vec F S1x1x64x64x128 .bf16
  gt : Vec F S1x1x16x512 .f32
  ov : Vec F S128x512 .bf16
  wm : Vec F S2x1024x512 .f32
  dm : Vec F S1x512x512 .f32

/-- The queries of one head. -/
abbrev qld0 (x : Vec F S1x4x64x512 .bf16) : Vec F S1x1x64x512 .bf16 :=
  View.ld x (Rect.unit (s := S1x4x64x512) ![0, 0, 0, 0] S1x1x64x512.size inb_S1x4x64x512_S1x1x64x512_0_0_0_0)
abbrev qld1 (x : Vec F S1x4x64x512 .bf16) : Vec F S1x1x64x512 .bf16 :=
  View.ld x (Rect.unit (s := S1x4x64x512) ![0, 1, 0, 0] S1x1x64x512.size inb_S1x4x64x512_S1x1x64x512_0_1_0_0)
abbrev qld2 (x : Vec F S1x4x64x512 .bf16) : Vec F S1x1x64x512 .bf16 :=
  View.ld x (Rect.unit (s := S1x4x64x512) ![0, 2, 0, 0] S1x1x64x512.size inb_S1x4x64x512_S1x1x64x512_0_2_0_0)
abbrev qld3 (x : Vec F S1x4x64x512 .bf16) : Vec F S1x1x64x512 .bf16 :=
  View.ld x (Rect.unit (s := S1x4x64x512) ![0, 3, 0, 0] S1x1x64x512.size inb_S1x4x64x512_S1x1x64x512_0_3_0_0)
abbrev kcld (x : Vec F S1x1x512x64 .bf16) : Vec F S1x1x512x64 .bf16 :=
  View.ld x (Rect.unit (s := S1x1x512x64) ![0, 0, 0, 0] S1x1x512x64.size inb_S1x1x512x64_S1x1x512x64_0_0_0_0)
abbrev vcld (x : Vec F S1x1x64x512 .bf16) : Vec F S1x1x64x512 .bf16 :=
  View.ld x (Rect.unit (s := S1x1x64x512) ![0, 0, 0, 0] S1x1x64x512.size inb_S1x1x64x512_S1x1x64x512_0_0_0_0)
abbrev ovld (x : Vec F S128x512 .bf16) : Vec F S128x512 .bf16 :=
  View.ld x (Rect.unit (s := S128x512) ![0, 0] S128x512.size inb_S128x512_S128x512_0_0)
abbrev gtld (x : Vec F S1x1x16x512 .f32) : Vec F S1x1x16x512 .f32 :=
  View.ld x (Rect.unit (s := S1x1x16x512) ![0, 0, 0, 0] S1x1x16x512.size inb_S1x1x16x512_S1x1x16x512_0_0_0_0)
/-- A tile of 512 augmented keys, -/
abbrev kald (x : Vec F S1x1x8192x256 .bf16) (o : Fin 4 → ℕ) (h : ∀ a, o a + S1x1x512x256.size a ≤ S1x1x8192x256.size a) :
    Vec F S1x1x512x256 .bf16 := View.ld x (Rect.unit (s := S1x1x8192x256) o S1x1x512x256.size h)
/-- the first of them, -/
abbrev kald0 (x : Vec F S1x1x8192x256 .bf16) : Vec F S1x1x512x256 .bf16 :=
  View.ld x (Rect.unit (s := S1x1x8192x256) ![0, 0, 0, 0] S1x1x512x256.size inb_S1x1x8192x256_S1x1x512x256_0_0_0_0)
/-- a piece of 128 values, -/
abbrev vld (x : Vec F S1x1x64x64x128 .bf16) (o : Fin 5 → ℕ) (h : ∀ a, o a + S1x1x1x64x128.size a ≤ S1x1x64x64x128.size a) :
    Vec F S1x1x1x64x128 .bf16 := View.ld x (Rect.unit (s := S1x1x64x64x128) o S1x1x1x64x128.size h)
/-- the 1024 keys of the window. -/
abbrev kwld (x : Vec F S1x1x8192x64 .bf16) (o : Fin 4 → ℕ) (h : ∀ a, o a + S1x1x1024x64.size a ≤ S1x1x8192x64.size a) :
    Vec F S1x1x1024x64 .bf16 := View.ld x (Rect.unit (s := S1x1x8192x64) o S1x1x1024x64.size h)
abbrev wmld (x : Vec F S2x1024x512 .f32) (o : Fin 3 → ℕ) (h : ∀ a, o a + S1x1024x512.size a ≤ S2x1024x512.size a) :
    Vec F S1x1024x512 .f32 := View.ld x (Rect.unit (s := S2x1024x512) o S1x1024x512.size h)
abbrev dmld (x : Vec F S1x512x512 .f32) (o : Fin 3 → ℕ) (h : ∀ a, o a + S1x512x512.size a ≤ S1x512x512.size a) :
    Vec F S1x512x512 .f32 := View.ld x (Rect.unit (s := S1x512x512) o S1x512x512.size h)

variable (i : grid0.Coords) (X : Ins F)

/-! ## The compressed branch -/

/-- The first row of the grid point's queries. -/
def row0 : BitVec 32 := Scalar.muli (BitVec.ofNat 32 (i 2).val) 512#32
/-- The four heads' queries side by side. -/
def qcat : FVec F S64x2048 .bf16 := k0_pay40 (qld0 X.q) (qld1 X.q) (qld2 X.q) (qld3 X.q)
/-- The exponentials of the compressed scores, -/
def pcmp : FVec F S512x2048 .f32 := k0_pay41 i (qld0 X.q) (qld1 X.q) (qld2 X.q) (qld3 X.q) (kcld X.kc)
/-- and the reciprocals of their sums. -/
def rcmp : FVec F S1x2048 .f32 := k0_pay42 i (qld0 X.q) (qld1 X.q) (qld2 X.q) (qld3 X.q) (kcld X.kc)
/-- The compressed branch's result. -/
def ocmp : FVec F S64x2048 .f32 := k0_pay44 (pcmp i X) (rcmp i X) (vcld X.vc)

/-! ## The selection -/

def blk : IVec S128x512 32 := iota .tc S128x512 32 [0] iota_S128x512_d0_w32
/-- The blocks' scores. -/
def bsc : FVec F S128x512 .f32 := k0_pay46 (pcmp i X) (rcmp i X) (ovld X.ov)
/-- The scores after the rounds each part of the program ends with, and the values between. -/
def sel13 : FVec F S128x512 .f32 := k0_pay48 (k0_pay45 (row0 i)) (bsc i X) blk 64#32 (k0_pay47 (row0 i)) 0#32
def ok13 : IVec S128x512 1 := k0_pay49 (F := F) (k0_pay45 (row0 i)) (bsc i X) blk 64#32 (k0_pay47 (row0 i)) 0#32
def mx13 : FVec F S1x512 .f32 := k0_pay50 (k0_pay45 (row0 i)) (bsc i X) blk 64#32 (k0_pay47 (row0 i)) 0#32
def sel14 : FVec F S128x512 .f32 := k0_pay51 blk (sel13 i X) (mx13 i X)
def hit14 : IVec S128x512 1 := k0_pay52 blk (sel13 i X) (mx13 i X)
def inf14 : FVec F S128x512 .f32 := k0_pay53
def sel15 : FVec F S128x512 .f32 := k0_pay54 blk (sel14 i X) (hit14 i X) inf14
def idx15 : IVec S1x512 32 := k0_pay55 blk (sel14 i X) (hit14 i X) inf14
def sel16 : FVec F S128x512 .f32 := k0_pay56 blk (sel15 i X) (idx15 i X)
def hit16 : IVec S128x512 1 := k0_pay57 blk (sel15 i X) (idx15 i X)
def big16 : IVec S128x512 32 := k0_pay58
def sel17 : FVec F S128x512 .f32 := k0_pay59 blk (sel16 i X) (hit16 i X) big16
def mx17 : FVec F S1x512 .f32 := k0_pay60 blk (sel16 i X) (hit16 i X) big16
/-- The queries with their blocks' biases below: the right operand of every tile of scores. -/
def rhs : FVec F S256x2048 .bf16 := k0_pay61 (qcat X) blk (ok13 i X) (sel17 i X) (mx17 i X)

/-! ## The selected branch -/

/-- What a trip of the loop carries: the running maxima, the accumulator, and the scores waiting in the first buffer. -/
structure St (F : FTy → Type) where
  mx : FVec F S1x2048 .f32
  acc : FVec F S80x2048 .f32
  tile : FVec F S512x2048 .f32

/-- The second tile's scores of trip `k`, -/
def odd (R : FVec F S256x2048 .bf16) (ka : Vec F S1x1x8192x256 .bf16) (k : Fin (k0_t1_loop i).trips) : FVec F S512x2048 .f32 :=
  k0_pay2 R (kald ka (k0_off1 i k 1#32) (k0_off1_inb i k 0))
/-- the accumulator after the first tile, -/
def accMid (vst : Vec F S1x1x64x64x128 .bf16) (k : Fin (k0_t1_loop i).trips) (s : St F) : FVec F S80x2048 .f32 :=
  k0_pay7 s.mx s.acc (k0_pay3 s.mx s.tile) (k0_pay4 s.mx s.tile)
    (k0_pay5 (vld vst (k0_off2 i k 0#32) (k0_off2_inb i k 0))) (k0_pay6 (vld vst (k0_off2 i k 1#32) (k0_off2_inb i k 1)))
    (vld vst (k0_off2 i k 2#32) (k0_off2_inb i k 2)) (vld vst (k0_off2 i k 3#32) (k0_off2_inb i k 3))
/-- and one trip: two tiles. -/
def trip (R : FVec F S256x2048 .bf16) (ka : Vec F S1x1x8192x256 .bf16) (vst : Vec F S1x1x64x64x128 .bf16)
    (k : Fin (k0_t1_loop i).trips) (s : St F) : St F where
  mx := k0_pay10 (k0_pay3 s.mx s.tile) (k0_pay9 (odd i R ka k))
  acc := k0_pay65 (k0_pay11 (k0_pay3 s.mx s.tile) (accMid i vst k s) (k0_pay9 (odd i R ka k)))
    (k0_pay12 (k0_pay3 s.mx s.tile) (odd i R ka k) (k0_pay9 (odd i R ka k))
      (vld vst (k0_off3 i k 0#32) (k0_off3_inb i k 0)) (vld vst (k0_off3 i k 1#32) (k0_off3_inb i k 1)) (vld vst (k0_off3 i k 2#32) (k0_off3_inb i k 2)) (vld vst (k0_off3 i k 3#32) (k0_off3_inb i k 3)))
  tile := k0_pay8 R (kald ka (k0_off1 i k 2#32) (k0_off1_inb i k 1))

/-- The carry before trip `k`, from the carry `s` before the first. -/
def st (R : FVec F S256x2048 .bf16) (ka : Vec F S1x1x8192x256 .bf16) (vst : Vec F S1x1x64x64x128 .bf16) (s : St F) : ℕ → St F
  | 0 => s
  | k + 1 => if h : k < (k0_t1_loop i).trips then trip i R ka vst ⟨k, h⟩ (st R ka vst s k) else st R ka vst s k

/-- The first tile's scores, made before the loop. -/
def tile0 : FVec F S512x2048 .f32 := k0_pay64 (rhs i X) (kald0 X.ka)
/-- The carry the loop starts from, -/
def st0 : St F := ⟨k0_pay62, k0_pay63, tile0 i X⟩
/-- and the one it ends with. -/
def stN : St F := st i (rhs i X) X.ka X.vst (st0 i X) (k0_t1_loop i).trips

/-- The tail of an even last tile: the waiting tile is the diagonal one. -/
def tailEven (h : k0_cond1 i = 1#1) (s : St F) : FVec F S80x2048 .f32 :=
  k0_pay67 s.mx s.acc (k0_pay25 s.mx s.tile (dmld X.dm (k0_off7 i) (k0_off7_inb i h)))
    (k0_pay26 s.mx s.tile (dmld X.dm (k0_off7 i) (k0_off7_inb i h)))
    (k0_pay27 (vld X.vst (k0_off8 i 0#32) (k0_off8_inb i h 0)))
    (vld X.vst (k0_off8 i 1#32) (k0_off8_inb i h 1)) (vld X.vst (k0_off8 i 2#32) (k0_off8_inb i h 2))
    (vld X.vst (k0_off8 i 3#32) (k0_off8_inb i h 3))

/-- The diagonal tile's scores when the last tile is odd. -/
def oddDiag (h : ¬ k0_cond1 i = 1#1) : FVec F S512x2048 .f32 := k0_pay28 (rhs i X) (kald X.ka (k0_off9 i) (k0_off9_inb i h))
/-- The accumulator between the two tiles of the odd tail, -/
def oddMid (h : ¬ k0_cond1 i = 1#1) (s : St F) : FVec F S80x2048 .f32 :=
  k0_pay33 s.mx s.acc (k0_pay29 s.mx s.tile) (k0_pay30 s.mx s.tile)
    (k0_pay31 (vld X.vst (k0_off10 i 0#32) (k0_off10_inb i h 0))) (k0_pay32 (vld X.vst (k0_off10 i 1#32) (k0_off10_inb i h 1)))
    (vld X.vst (k0_off10 i 2#32) (k0_off10_inb i h 2)) (vld X.vst (k0_off10 i 3#32) (k0_off10_inb i h 3))
/-- the diagonal mask, -/
def oddMask (h : ¬ k0_cond1 i = 1#1) : FVec F S512x512 .f32 := k0_pay34 (dmld X.dm (k0_off11 i) (k0_off11_inb i h))
/-- and the tail of an odd last tile: the waiting tile, then the diagonal one. -/
def tailOdd (h : ¬ k0_cond1 i = 1#1) (s : St F) : FVec F S80x2048 .f32 :=
  k0_pay68 (k0_pay37 (k0_pay29 s.mx s.tile) (oddDiag i X h) (oddMask i X h))
    (k0_pay38 (vld X.vst (k0_off12 i 0#32) (k0_off12_inb i h 0)) (vld X.vst (k0_off12 i 1#32) (k0_off12_inb i h 1)) (vld X.vst (k0_off12 i 2#32) (k0_off12_inb i h 2)) (vld X.vst (k0_off12 i 3#32) (k0_off12_inb i h 3)))
    (k0_pay39 (k0_pay29 s.mx s.tile) (oddMid i X h s) (oddDiag i X h) (oddMask i X h))
    (Scalar.ofBits .bf16 0x3F80#16)

/-- The accumulator at the end, -/
def accN : FVec F S80x2048 .f32 :=
  if h : k0_cond1 i = 1#1 then tailEven i X h (stN i X) else tailOdd i X h (stN i X)
/-- and the selected branch's result. -/
def osel : FVec F S64x2048 .f32 := k0_pay69 (accN i X)

/-! ## The window branch and the result -/

/-- The exponentials of the window's scores. -/
def pwin : FVec F S1024x2048 .bf16 :=
  k0_pay70 (qcat X) (wmld X.wm (k0_off13 i) (k0_off13_inb i)) (kwld X.kw (k0_off14 i) (k0_off14_inb i))
def vw0 : FVec F S64x128 .bf16 := k0_pay71 (vld X.vw (k0_off15 i 0#32) (k0_off15_inb i 0))
def vw1 : FVec F S64x128 .bf16 := k0_pay72 (vld X.vw (k0_off15 i 1#32) (k0_off15_inb i 1))
def vw2 : FVec F S64x128 .bf16 := k0_pay73 (vld X.vw (k0_off15 i 2#32) (k0_off15_inb i 2))
def vw3 : FVec F S64x128 .bf16 := k0_pay74 (vld X.vw (k0_off15 i 3#32) (k0_off15_inb i 3))
def vw4 : FVec F S64x128 .bf16 := k0_pay75 (vld X.vw (k0_off15 i 4#32) (k0_off15_inb i 4))
def vw5 : FVec F S64x128 .bf16 := k0_pay76 (vld X.vw (k0_off15 i 5#32) (k0_off15_inb i 5))
def vw6 : FVec F S64x128 .bf16 := k0_pay77 (vld X.vw (k0_off15 i 6#32) (k0_off15_inb i 6))
def vwLast : Vec F S1x1x1x64x128 .bf16 := vld X.vw (k0_off15 i 7#32) (k0_off15_inb i 7)
/-- The window branch's result. -/
def owin : FVec F S64x2048 .f32 :=
  k0_pay78 (pwin i X) (vw0 i X) (vw1 i X) (vw2 i X) (vw3 i X) (vw4 i X) (vw5 i X) (vw6 i X) (vwLast i X)
/-- The block of results. -/
def blockOut : FVec F S1x512x256 .bf16 :=
  k0_pay1 (ocmp i X) (osel i X) (owin i X) (k0_pay79 (gtld X.gt))
    (k0_pay80 (ocmp i X) (osel i X) (pwin i X) (vw0 i X) (vw1 i X) (vw2 i X) (vw3 i X) (vw4 i X) (vw5 i X) (vw6 i X) (vwLast i X) (gtld X.gt))
    (k0_pay81 (ocmp i X) (osel i X) (pwin i X) (vw0 i X) (vw1 i X) (vw2 i X) (vw3 i X) (vw4 i X) (vw5 i X) (vw6 i X) (vwLast i X) (gtld X.gt))
    (k0_pay82 (ocmp i X) (osel i X) (gtld X.gt)) (k0_pay83 (gtld X.gt))

end Cert.Proof.Ideal

end
-- ==== Proof.Ideal.Loop.lean ====
/-
  The loop over pairs of key tiles: before each trip the first buffer holds the scores waiting and the carry is `st`'s.
-/
module

public import proofs.«01_k».proof.Proof.Ideal.Vals

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A load of the whole buffer after one store to the whole of it reads what was stored. -/
theorem read_writes_whole (v : View sig .tc .vmem S512x2048 .f32) (f : v.ty.Contents (Elt F)) (w : FVec F S512x2048 .f32) (L) :
    v.read (Elt F) (v.writes (Elt F) f (⟨Rect.unit (s := S512x2048) ![0, 0] S512x2048.size inb_S512x2048_S512x2048_0_0, w⟩ :: L)) = w := by
  funext y
  have e : (Rect.unit (s := S512x2048) ![0, 0] S512x2048.size inb_S512x2048_S512x2048_0_0).emb y = y := by
    funext a; apply Fin.ext; fin_cases a <;> exact (Nat.zero_add _).trans (Nat.one_mul _)
  conv_lhs => rw [← e]
  exact View.read_writes_cons_emb ..

/-- A load of the whole buffer reads it. -/
theorem ld_whole (x : Vec F S512x2048 .f32) :
    View.ld x (Rect.unit (s := S512x2048) ![0, 0] S512x2048.size inb_S512x2048_S512x2048_0_0) = x := by
  funext y
  refine congrArg x ?_
  funext a; apply Fin.ext; fin_cases a <;> exact (Nat.zero_add _).trans (Nat.one_mul _)

/-- So does a load of the whole buffer after a store to the whole of it. -/
theorem readCov_whole (v : View sig .tc .vmem S512x2048 .f32) (w : FVec F S512x2048 .f32) (L) :
    v.readCov (Val := Elt F) (⟨Rect.unit (s := S512x2048) ![0, 0] S512x2048.size inb_S512x2048_S512x2048_0_0, w⟩ :: L)
      (Rect.unit (s := S512x2048) ![0, 0] S512x2048.size inb_S512x2048_S512x2048_0_0).toLoadRect = w := by
  refine (View.readCov_eq_canon_ld _ _ _ fun y => ⟨_, List.mem_cons_self .., ?_⟩).trans ?_
  · have e : (Rect.unit (s := S512x2048) ![0, 0] S512x2048.size inb_S512x2048_S512x2048_0_0).emb y = y := by
      funext a; apply Fin.ext; fin_cases a <;> exact (Nat.zero_add _).trans (Nat.one_mul _)
    rw [← Rect.map_emb_univ]
    exact Finset.mem_map.mpr ⟨y, Finset.mem_univ _, e⟩
  · rw [ld_whole]
    funext y
    have e : (Rect.unit (s := S512x2048) ![0, 0] S512x2048.size inb_S512x2048_S512x2048_0_0).emb y = y := by
      funext a; apply Fin.ext; fin_cases a <;> exact (Nat.zero_add _).trans (Nat.one_mul _)
    conv_lhs => rw [← e]
    exact View.canon_cons_emb ..

theorem st_succ (i : grid0.Coords) (R : FVec F S256x2048 .bf16) (ka : Vec F S1x1x8192x256 .bf16) (vst : Vec F S1x1x64x64x128 .bf16)
    (s : St F) (k : Fin (k0_t1_loop i).trips) :
    st i R ka vst s (k.val + 1) = trip i R ka vst k (st i R ka vst s k.val) := by
  rw [st, dif_pos k.isLt]

set_option maxHeartbeats 4000000 in
set_option warn.classDefReducibility false in
/-- The first loop by its invariant. -/
@[sl_loop] def loop1 (𝒱 : Variants) (c : Dev nD) (bd : Option 𝒱.V) (E : Set ℕ) (i : grid0.Coords) (arg3 : Memref sig .tc .vmem S1x4x64x512 .bf16) (harg3 : arg3.IsWhole) (arg4 : Memref sig .tc .vmem S1x1x512x64 .bf16) (harg4 : arg4.IsWhole) (arg5 : Memref sig .tc .vmem S1x1x64x512 .bf16) (harg5 : arg5.IsWhole) (arg6 : Memref sig .tc .vmem S1x1x8192x256 .bf16) (harg6 : arg6.IsWhole) (arg7 : Memref sig .tc .vmem S1x1x64x64x128 .bf16) (harg7 : arg7.IsWhole) (arg8 : Memref sig .tc .vmem S1x1x8192x64 .bf16) (harg8 : arg8.IsWhole) (arg9 : Memref sig .tc .vmem S1x1x64x64x128 .bf16) (harg9 : arg9.IsWhole) (arg10 : Memref sig .tc .vmem S1x1x16x512 .f32) (harg10 : arg10.IsWhole) (arg11 : Memref sig .tc .vmem S128x512 .bf16) (harg11 : arg11.IsWhole) (arg12 : Memref sig .tc .vmem S2x1024x512 .f32) (harg12 : arg12.IsWhole) (arg13 : Memref sig .tc .vmem S1x512x512 .f32) (harg13 : arg13.IsWhole) (arg14 : Memref sig .tc .vmem S1x512x256 .bf16) (harg14 : arg14.IsWhole) (arg15 : Memref sig .tc .vmem S512x2048 .f32) (harg15 : arg15.IsWhole) (arg16 : Memref sig .tc .vmem S512x2048 .f32) (harg16 : arg16.IsWhole)
    (v320 : FVec F S256x2048 .bf16)
    (X6 : BufTy.Contents (Elt F) arg6.view.ty) (X7 : BufTy.Contents (Elt F) arg7.view.ty) (G15 : BufTy.Contents (Elt F) arg15.view.ty)
    (init : FVec F S1x2048 .f32 × FVec F S80x2048 .f32) :
    Idealize.ShloMosaic.LoopInv (M := 𝕄) Idealize.ShloMosaic.frame (wpE (defs₀ (F := F)) 𝒱 (c : Thread nD τ) bd) E
      (k0_t1_loop i).lb (k0_t1_loop i).ub (k0_t1_loop i).st (k0_t1_ok i) init
      (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 v320 0#32 init.1 init.2) where
  inv k acc := iprop((arg6.view.loc (c : Thread nD τ) ↦[arg6.view.set]{fullShare} X6)
    ∗ (arg7.view.loc (c : Thread nD τ) ↦[arg7.view.set]{fullShare} X7)
    ∗ (∃ f, (arg15.view.loc (c : Thread nD τ) ↦[arg15.view.set]{fullShare} f)
        ∗ ⌜arg15.view.read (Elt F) f = (st i v320 (arg6.view.read (Elt F) X6) (arg7.view.read (Elt F) X7) ⟨init.1, init.2, arg15.view.read (Elt F) G15⟩ k).tile⌝)
    ∗ (∃ f, (arg16.view.loc (c : Thread nD τ) ↦[arg16.view.set]{fullShare} f))
    ∗ ⌜acc = ((st i v320 (arg6.view.read (Elt F) X6) (arg7.view.read (Elt F) X7) ⟨init.1, init.2, arg15.view.read (Elt F) G15⟩ k).mx, (st i v320 (arg6.view.read (Elt F) X6) (arg7.view.read (Elt F) X7) ⟨init.1, init.2, arg15.view.read (Elt F) G15⟩ k).acc)⌝)
  step k acc := by
    iintro ⟨H6, H7, ⟨%f15, H15, %h15⟩, ⟨%f16, H16⟩, %hacc⟩
    subst hacc
    sl_exec
    sl_step
    isplitl [H6]; · iexact H6
    isplitl [H7]; · iexact H7
    isplitl [H15]
    · iexists _; isplitl [H15]; · iexact H15
      ipureintro
      rw [read_writes_whole]
      exact (congrArg St.tile (st_succ i _ _ _ _ k)).symm
    isplitl [H16]; · iexists _; iexact H16
    ipureintro
    have hr : arg15.view.readAt (Elt F) (Rect.unit (s := S512x2048) ![0, 0] S512x2048.size inb_S512x2048_S512x2048_0_0).toLoadRect f15 = _ :=
      (ld_whole _).trans h15
    rw [st_succ i _ _ _ _ k]
    have ho : loop1.sl.v712 i arg6 arg16 v320 X6 k = odd i v320 (arg6.view.read (Elt F) X6) k := readCov_whole _ _ _
    unfold loop1.sl.v715 loop1.sl.v744 loop1.sl.v747 loop1.sl.v714 loop1.sl.v713
    unfold loop1.sl.v743 loop1.sl.v742 loop1.sl.v741 loop1.sl.v715 loop1.sl.v714 loop1.sl.v713 loop1.sl.v719 loop1.sl.v718 loop1.sl.v717
    unfold loop1.sl.v716
    unfold loop1.sl.v715 loop1.sl.v714 loop1.sl.v713
    rw [ho]
    unfold loop1.sl.v698 loop1.sl.v694 loop1.sl.v697 loop1.sl.v693 loop1.sl.v692 loop1.sl.v669 loop1.sl.v668 loop1.sl.v691 loop1.sl.v667 loop1.sl.v666
    unfold loop1.sl.v665 loop1.sl.v664 loop1.sl.v663
    rw [hr]
    rfl

end Cert.Proof.Ideal

end
-- ==== Proof.Ideal.Body.lean ====
/-
  One run of the kernel's body: from the blocks at their contents, the block of results ends at `blockOut` of them and the
  two score buffers at something.
-/
module

public import proofs.«01_k».proof.Proof.Ideal.Vals
public import proofs.«01_k».proof.Proof.Ideal.Loop

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The second loop makes no trip. -/
theorem trips2 : ∀ i : grid0.Coords, (k0_t2_loop i).trips = 0 := by decide +kernel

abbrev rOut : Rect S1x512x256 := Rect.unit (s := S1x512x256) ![0, 0, 0] S1x512x256.size inb_S1x512x256_S1x512x256_0_0_0

/-- What the body leaves in the window of results: its one store. -/
def out (i : grid0.Coords) (X : Ins F) : Vec F S1x512x256 .bf16 := View.canon [⟨rOut, blockOut i X⟩]

theorem cover (p : Vec F S1x512x256 .bf16) (y : S1x512x256.Idx) :
    ∃ pc ∈ ([⟨rOut, p⟩] : List (View.Piece (Elt F) S1x512x256 .bf16)), y ∈ pc.1.set :=
  View.cover_of_tiled [⟨rOut, p⟩] S1x512x256.size (by rfl) y

set_option maxHeartbeats 8000000 in
/-- The run when the last tile's number is even: the waiting tile is the diagonal one. -/
theorem sound_even (c : Dev nD) (E : Set ℕ) (i : grid0.Coords) (arg3 : Memref sig .tc .vmem S1x4x64x512 .bf16) (harg3 : arg3.IsWhole) (arg4 : Memref sig .tc .vmem S1x1x512x64 .bf16) (harg4 : arg4.IsWhole) (arg5 : Memref sig .tc .vmem S1x1x64x512 .bf16) (harg5 : arg5.IsWhole) (arg6 : Memref sig .tc .vmem S1x1x8192x256 .bf16) (harg6 : arg6.IsWhole) (arg7 : Memref sig .tc .vmem S1x1x64x64x128 .bf16) (harg7 : arg7.IsWhole) (arg8 : Memref sig .tc .vmem S1x1x8192x64 .bf16) (harg8 : arg8.IsWhole) (arg9 : Memref sig .tc .vmem S1x1x64x64x128 .bf16) (harg9 : arg9.IsWhole) (arg10 : Memref sig .tc .vmem S1x1x16x512 .f32) (harg10 : arg10.IsWhole) (arg11 : Memref sig .tc .vmem S128x512 .bf16) (harg11 : arg11.IsWhole) (arg12 : Memref sig .tc .vmem S2x1024x512 .f32) (harg12 : arg12.IsWhole) (arg13 : Memref sig .tc .vmem S1x512x512 .f32) (harg13 : arg13.IsWhole) (arg14 : Memref sig .tc .vmem S1x512x256 .bf16) (harg14 : arg14.IsWhole) (arg15 : Memref sig .tc .vmem S512x2048 .f32) (harg15 : arg15.IsWhole) (arg16 : Memref sig .tc .vmem S512x2048 .f32) (harg16 : arg16.IsWhole)
    (x3 : Vec F S1x4x64x512 .bf16) (x4 : Vec F S1x1x512x64 .bf16) (x5 : Vec F S1x1x64x512 .bf16) (x6 : Vec F S1x1x8192x256 .bf16) (x7 : Vec F S1x1x64x64x128 .bf16) (x8 : Vec F S1x1x8192x64 .bf16) (x9 : Vec F S1x1x64x64x128 .bf16) (x10 : Vec F S1x1x16x512 .f32) (x11 : Vec F S128x512 .bf16) (x12 : Vec F S2x1024x512 .f32) (x13 : Vec F S1x512x512 .f32) (hc : k0_cond1 i = 1#1) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
        ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ owns (c : Thread nD τ) arg14 fullShare (out i ⟨x3, x4, x5, x6, x7, x8, x9, x10, x11, x12, x13⟩) ∗ (∃ d, owns (c : Thread nD τ) arg15 fullShare d) ∗ (∃ d, owns (c : Thread nD τ) arg16 fullShare d)) -∗ K ⟨⟩))
      ⊢ wp frame (wpE (defs₀ (F := F)) Variants.none c none) E (cc0_nsa_attn i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_nsa_attn_eq_skeleton]; unfold cc0_nsa_attn_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
  subst hf3 hf4 hf5 hf6 hf7 hf8 hf9 hf10 hf11 hf12 hf13
  have htr := trips2 i
  sl_exec (disch := sl_exact hc)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover _)).trans ?_
    have hst : st i (sound_even.sl.r c i arg3 arg4 arg11 f3 f4 f11) (arg6.view.read (Elt F) f6) (arg7.view.read (Elt F) f7)
        ⟨k0_pay62, k0_pay63, arg15.view.read (Elt F) (arg15.view.writes (Elt F) arg15.view.junk (sound_even.sl.H15_1 c i arg3 arg4 arg6 arg11 f3 f4 f6 f11))⟩
        (k0_t1_loop i).trips = stN i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩) := by
      unfold sound_even.sl.H15_1
      rw [read_writes_whole]
      rfl
    have hrd : arg15.view.readAt (Elt F) (Rect.unit (s := S512x2048) ![0, 0] S512x2048.size inb_S512x2048_S512x2048_0_0).toLoadRect fL0
        = (stN i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩)).tile := (ld_whole _).trans (hL3.trans (congrArg St.tile hst))
    have h1 : sound_even.sl.r_1 c i arg3 arg4 arg6 arg7 arg11 arg15 f3 f4 f6 f7 f11 = (stN i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩)).mx := congrArg St.mx hst
    have h2 : sound_even.sl.r_2 c i arg3 arg4 arg6 arg7 arg11 arg15 f3 f4 f6 f7 f11 = (stN i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩)).acc := congrArg St.acc hst
    have h389 : sound_even.sl.v389 c i arg3 arg4 arg6 arg7 arg11 arg13 arg15 hc f3 f4 f6 f7 f11 f13 fL0 = osel i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩) := by
      unfold osel accN
      rw [dif_pos hc]
      unfold sound_even.sl.v389 sound_even.sl.v388 sound_even.sl.v387 sound_even.sl.v386 sound_even.sl.v710 sound_even.sl.v709 sound_even.sl.v706 sound_even.sl.v705 sound_even.sl.v704 sound_even.sl.v703
      unfold sound_even.sl.v681 sound_even.sl.v680 sound_even.sl.v679 sound_even.sl.v678 sound_even.sl.v677 sound_even.sl.v676 sound_even.sl.v675 sound_even.sl.v674
      rw [h1, h2, hrd]
      rfl
    unfold sound_even.sl.v601 sound_even.sl.v615 sound_even.sl.v624
    unfold sound_even.sl.v596 sound_even.sl.v610 sound_even.sl.v623
    unfold sound_even.sl.v595 sound_even.sl.v609 sound_even.sl.v621
    unfold sound_even.sl.v593 sound_even.sl.v607
    rw [h389]
    rfl
  isplitl [H15]
  · iexists _; iexists _; isplitr
    swap; · iexact H15
    ipureintro; rfl
  iexists _; iexists _; isplitr
  swap; · iexact H16
  ipureintro; rfl

set_option maxHeartbeats 8000000 in
/-- The run when the last tile's number is odd. -/
theorem sound_odd (c : Dev nD) (E : Set ℕ) (i : grid0.Coords) (arg3 : Memref sig .tc .vmem S1x4x64x512 .bf16) (harg3 : arg3.IsWhole) (arg4 : Memref sig .tc .vmem S1x1x512x64 .bf16) (harg4 : arg4.IsWhole) (arg5 : Memref sig .tc .vmem S1x1x64x512 .bf16) (harg5 : arg5.IsWhole) (arg6 : Memref sig .tc .vmem S1x1x8192x256 .bf16) (harg6 : arg6.IsWhole) (arg7 : Memref sig .tc .vmem S1x1x64x64x128 .bf16) (harg7 : arg7.IsWhole) (arg8 : Memref sig .tc .vmem S1x1x8192x64 .bf16) (harg8 : arg8.IsWhole) (arg9 : Memref sig .tc .vmem S1x1x64x64x128 .bf16) (harg9 : arg9.IsWhole) (arg10 : Memref sig .tc .vmem S1x1x16x512 .f32) (harg10 : arg10.IsWhole) (arg11 : Memref sig .tc .vmem S128x512 .bf16) (harg11 : arg11.IsWhole) (arg12 : Memref sig .tc .vmem S2x1024x512 .f32) (harg12 : arg12.IsWhole) (arg13 : Memref sig .tc .vmem S1x512x512 .f32) (harg13 : arg13.IsWhole) (arg14 : Memref sig .tc .vmem S1x512x256 .bf16) (harg14 : arg14.IsWhole) (arg15 : Memref sig .tc .vmem S512x2048 .f32) (harg15 : arg15.IsWhole) (arg16 : Memref sig .tc .vmem S512x2048 .f32) (harg16 : arg16.IsWhole)
    (x3 : Vec F S1x4x64x512 .bf16) (x4 : Vec F S1x1x512x64 .bf16) (x5 : Vec F S1x1x64x512 .bf16) (x6 : Vec F S1x1x8192x256 .bf16) (x7 : Vec F S1x1x64x64x128 .bf16) (x8 : Vec F S1x1x8192x64 .bf16) (x9 : Vec F S1x1x64x64x128 .bf16) (x10 : Vec F S1x1x16x512 .f32) (x11 : Vec F S128x512 .bf16) (x12 : Vec F S2x1024x512 .f32) (x13 : Vec F S1x512x512 .f32) (hc : ¬ k0_cond1 i = 1#1) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
        ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ owns (c : Thread nD τ) arg14 fullShare (out i ⟨x3, x4, x5, x6, x7, x8, x9, x10, x11, x12, x13⟩) ∗ (∃ d, owns (c : Thread nD τ) arg15 fullShare d) ∗ (∃ d, owns (c : Thread nD τ) arg16 fullShare d)) -∗ K ⟨⟩))
      ⊢ wp frame (wpE (defs₀ (F := F)) Variants.none c none) E (cc0_nsa_attn i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_nsa_attn_eq_skeleton]; unfold cc0_nsa_attn_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
  subst hf3 hf4 hf5 hf6 hf7 hf8 hf9 hf10 hf11 hf12 hf13
  have htr := trips2 i
  sl_exec (disch := sl_exact hc)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover _)).trans ?_
    have hst : st i (sound_odd.sl.r c i arg3 arg4 arg11 f3 f4 f11) (arg6.view.read (Elt F) f6) (arg7.view.read (Elt F) f7)
        ⟨k0_pay62, k0_pay63, arg15.view.read (Elt F) (arg15.view.writes (Elt F) arg15.view.junk (sound_odd.sl.H15_1 c i arg3 arg4 arg6 arg11 f3 f4 f6 f11))⟩
        (k0_t1_loop i).trips = stN i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩) := by
      unfold sound_odd.sl.H15_1
      rw [read_writes_whole]
      rfl
    have hrd : arg15.view.readAt (Elt F) (Rect.unit (s := S512x2048) ![0, 0] S512x2048.size inb_S512x2048_S512x2048_0_0).toLoadRect fL0
        = (stN i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩)).tile := (ld_whole _).trans (hL3.trans (congrArg St.tile hst))
    have h1 : sound_odd.sl.r_1 c i arg3 arg4 arg6 arg7 arg11 arg15 f3 f4 f6 f7 f11 = (stN i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩)).mx := congrArg St.mx hst
    have h2 : sound_odd.sl.r_2 c i arg3 arg4 arg6 arg7 arg11 arg15 f3 f4 f6 f7 f11 = (stN i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩)).acc := congrArg St.acc hst
    have ho : sound_odd.sl.v697 c i arg3 arg4 arg6 arg11 arg16 hc f3 f4 f6 f11 = oddDiag i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩) hc := readCov_whole _ _ _
    have h389 : sound_odd.sl.v389 c i arg3 arg4 arg6 arg7 arg11 arg13 arg15 arg16 hc f3 f4 f6 f7 f11 f13 fL0 = osel i (⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13⟩) := by
      unfold osel accN
      rw [dif_neg hc]
      unfold sound_odd.sl.v389 sound_odd.sl.v388 sound_odd.sl.v387 sound_odd.sl.v386 sound_odd.sl.v757 sound_odd.sl.v756 sound_odd.sl.v753 sound_odd.sl.v752 sound_odd.sl.v751 sound_odd.sl.v750
      unfold sound_odd.sl.v728 sound_odd.sl.v727 sound_odd.sl.v726 sound_odd.sl.v725 sound_odd.sl.v724 sound_odd.sl.v723 sound_odd.sl.v722 sound_odd.sl.v721
      unfold sound_odd.sl.v696 sound_odd.sl.v695 sound_odd.sl.v692 sound_odd.sl.v691 sound_odd.sl.v690 sound_odd.sl.v689 sound_odd.sl.v667 sound_odd.sl.v666 sound_odd.sl.v665 sound_odd.sl.v664 sound_odd.sl.v663 sound_odd.sl.v662 sound_odd.sl.v661
      rw [h1, h2, hrd, ho]
      rfl
    unfold sound_odd.sl.v601 sound_odd.sl.v615 sound_odd.sl.v624
    unfold sound_odd.sl.v596 sound_odd.sl.v610 sound_odd.sl.v623
    unfold sound_odd.sl.v595 sound_odd.sl.v609 sound_odd.sl.v621
    unfold sound_odd.sl.v593 sound_odd.sl.v607
    rw [h389]
    rfl
  isplitl [H15]
  · iexists _; iexists _; isplitr
    swap; · iexact H15
    ipureintro; rfl
  iexists _; iexists _; isplitr
  swap; · iexact H16
  ipureintro; rfl

end Cert.Proof.Ideal

end
-- ==== Proof.Ideal.Run.lean ====
/-
  The run of the program: the pipeline's proof data (each input's block in place, the block of results at `out` of them),
  the body at a generic grid point, and the frame.
-/
module

public import proofs.«01_k».proof.Proof.Ideal.Vals
public import proofs.«01_k».proof.Proof.Ideal.Body
public import Idealize.ShloMosaic.Lib.Claim

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks of the operands at grid point `t`. -/
abbrev insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t⟩

/-- The body at any parity of the last tile. -/
theorem sound_kernel (c : Dev nD) (E : Set ℕ) (i : grid0.Coords) (arg3 : Memref sig .tc .vmem S1x4x64x512 .bf16) (harg3 : arg3.IsWhole) (arg4 : Memref sig .tc .vmem S1x1x512x64 .bf16) (harg4 : arg4.IsWhole) (arg5 : Memref sig .tc .vmem S1x1x64x512 .bf16) (harg5 : arg5.IsWhole) (arg6 : Memref sig .tc .vmem S1x1x8192x256 .bf16) (harg6 : arg6.IsWhole) (arg7 : Memref sig .tc .vmem S1x1x64x64x128 .bf16) (harg7 : arg7.IsWhole) (arg8 : Memref sig .tc .vmem S1x1x8192x64 .bf16) (harg8 : arg8.IsWhole) (arg9 : Memref sig .tc .vmem S1x1x64x64x128 .bf16) (harg9 : arg9.IsWhole) (arg10 : Memref sig .tc .vmem S1x1x16x512 .f32) (harg10 : arg10.IsWhole) (arg11 : Memref sig .tc .vmem S128x512 .bf16) (harg11 : arg11.IsWhole) (arg12 : Memref sig .tc .vmem S2x1024x512 .f32) (harg12 : arg12.IsWhole) (arg13 : Memref sig .tc .vmem S1x512x512 .f32) (harg13 : arg13.IsWhole) (arg14 : Memref sig .tc .vmem S1x512x256 .bf16) (harg14 : arg14.IsWhole) (arg15 : Memref sig .tc .vmem S512x2048 .f32) (harg15 : arg15.IsWhole) (arg16 : Memref sig .tc .vmem S512x2048 .f32) (harg16 : arg16.IsWhole)
    (x3 : Vec F S1x4x64x512 .bf16) (x4 : Vec F S1x1x512x64 .bf16) (x5 : Vec F S1x1x64x512 .bf16) (x6 : Vec F S1x1x8192x256 .bf16) (x7 : Vec F S1x1x64x64x128 .bf16) (x8 : Vec F S1x1x8192x64 .bf16) (x9 : Vec F S1x1x64x64x128 .bf16) (x10 : Vec F S1x1x16x512 .f32) (x11 : Vec F S128x512 .bf16) (x12 : Vec F S2x1024x512 .f32) (x13 : Vec F S1x512x512 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
        ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
            ∗ owns (c : Thread nD τ) arg14 fullShare (out i ⟨x3, x4, x5, x6, x7, x8, x9, x10, x11, x12, x13⟩) ∗ (∃ d, owns (c : Thread nD τ) arg15 fullShare d) ∗ (∃ d, owns (c : Thread nD τ) arg16 fullShare d)) -∗ K ⟨⟩))
      ⊢ wp frame (wpE (defs₀ (F := F)) Variants.none c none) E (cc0_nsa_attn i arg3 harg3 arg4 harg4 arg5 harg5 arg6 harg6 arg7 harg7 arg8 harg8 arg9 harg9 arg10 harg10 arg11 harg11 arg12 harg12 arg13 harg13 arg14 harg14 arg15 harg15 arg16 harg16) K := by
  by_cases hc : k0_cond1 i = 1#1
  · exact sound_even c E i arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 x9 x10 x11 x12 x13 hc K
  · exact sound_odd c E i arg3 harg3 arg4 harg4 arg5 harg5 arg6 harg6 arg7 harg7 arg8 harg8 arg9 harg9 arg10 harg10 arg11 harg11 arg12 harg12 arg13 harg13 arg14 harg14 arg15 harg15 arg16 harg16 x3 x4 x5 x6 x7 x8 x9 x10 x11 x12 x13 hc K

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out (grid0.coords t) (insAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out (grid0.coords t) (insAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- A whole score buffer at some contents, as the memref the body takes. -/
theorem scr0 (c : Dev nD) : (iprop(∃ f : Buf (Elt F) ((c : Thread nD τ).loc cc0_scratch0), ((c : Thread nD τ).loc cc0_scratch0) ↦{fullShare} f) : sProp 𝕄)
    = iprop(∃ d : S512x2048.Idx → Elt F .f32, owns (c : Thread nD τ) (Memref.whole cc0_scratch0) fullShare d) :=
  congrArg _ (funext fun f => (owns_whole (c : Thread nD τ) cc0_scratch0 fullShare f).symm)
theorem scr1 (c : Dev nD) : (iprop(∃ f : Buf (Elt F) ((c : Thread nD τ).loc cc0_scratch1), ((c : Thread nD τ).loc cc0_scratch1) ↦{fullShare} f) : sProp 𝕄)
    = iprop(∃ d : S512x2048.Idx → Elt F .f32, owns (c : Thread nD τ) (Memref.whole cc0_scratch1) fullShare d) :=
  congrArg _ (funext fun f => (owns_whole (c : Thread nD τ) cc0_scratch1 fullShare f).symm)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11]
  unfold Pipeline.ΦA
  rw [scopedRest0_eq, scr0, scr1]
  iintro ⟨⟨⟨S0, S1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [S0]; · iexact S0
  isplitl [S1]; · iexact S1
  iintro ⟨H0, H1, H2, H3, H4, H5, H6, H7, H8, H9, H10, H11, S0, S1⟩
  isplitl [S0 S1 HR]
  · isplitl [S0 S1]
    · isplitl [S0]
      · iexact S0
      · iexact S1
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array ends at what the proof data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the run ends, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Proof.Ideal

end
-- ==== Proof.Ffn.Block.lean ====
/-
  THE FEED-FORWARD KERNEL'S BLOCK, at the ideal instance: what one grid point leaves in its output block is, at row `r` and
  column `d`, the residual `x r d` plus the sum over the 2816 hidden units of the gated activation times the down weight
  (`out_apply`). The body adds eleven products over 256 hidden units each, left to right (`out_eq_chunks`); one of them at
  an index is a sum over its 256 units (`chunk_apply`); the eleven are the sum over all 2816 (`sum_chunks`).
-/
module

public import proofs.«01_k».proof.Proof.Gen.KernelFfnIdeal.Frame
public import Idealize.ShloMosaic.Lib.Pipeline.Value
public import Idealize.ShloMosaic.Lib.Affine
public import Idealize.ShloMosaic.Lib.Pointwise

@[expose] public section

set_option maxRecDepth 16384

noncomputable section

namespace Cert.Proof.Ffn

open Idealize.ShloMosaic Idealize.SL.Sem Cert.KernelFfnIdeal Cert.KernelFfnIdeal.Gen

/-! ## The specification: one row of the feed-forward part -/

/-- The row `x`, normalised by its mean square and scaled by the norm weights `g`, at column `k`. -/
def xn (x g : Fin 1024 → EReal) (k : Fin 1024) : EReal :=
  x k * Ideal.rsqrt (Ideal.div (∑ j, x j * x j) (Ideal.ofBits .f32 0x44800000#32) + Ideal.ofBits .f32 0x358637BD#32) * g k

/-- One hidden unit's gated activation: the normalised row `z` against the unit's gate and up columns. -/
def act (z wg wu : Fin 1024 → EReal) : EReal :=
  (∑ k, z k * wg k) * Ideal.logistic (∑ k, z k * wg k) * ∑ k, z k * wu k

/-- The feed-forward part of one row: residual plus the down projection of the activations. -/
def row (x g : Fin 1024 → EReal) (wg wu : Fin 1024 → Fin 2816 → EReal) (wd : Fin 2816 → Fin 1024 → EReal)
    (d : Fin 1024) : EReal :=
  x d + ∑ f, act (xn x g) (fun k => wg k f) (fun k => wu k f) * wd f d

/-! ## The body -/

section
variable {F : FTy → Type} [FloatOps F]

/-- The product of 256 hidden units, as the body spells it. -/
def chunk (z : FVec F S512x1024 .bf16) (wg wu : Vec F S1024x256 .bf16) (wd : Vec F S256x1024 .bf16) :
    FVec F S512x1024 .f32 :=
  matmul dot_S512x256_S256x1024_S512x1024_1_0_0_1_n_n none
    (truncf .bf16
      (mulf
        (mulf
          (matmul dot_S512x1024_S1024x256_S512x256_1_0_0_1_n_n none z
            (shapeCast S1024x256 wg shapeCasts_S1024x256_S1024x256) (constant S512x256 .f32 0x00000000#32))
          (logistic (matmul dot_S512x1024_S1024x256_S512x256_1_0_0_1_n_n none z
            (shapeCast S1024x256 wg shapeCasts_S1024x256_S1024x256) (constant S512x256 .f32 0x00000000#32))))
        (matmul dot_S512x1024_S1024x256_S512x256_1_0_0_1_n_n none z
          (shapeCast S1024x256 wu shapeCasts_S1024x256_S1024x256) (constant S512x256 .f32 0x00000000#32)))
      bitsLt_bf16_f32)
    (shapeCast S256x1024 wd shapeCasts_S256x1024_S256x1024) (constant S512x1024 .f32 0x00000000#32)

/-- The output block: the residual plus the eleven products, added left to right. -/
theorem out_eq_chunks (x0 : Vec F S512x1024 .f32) (x1 : Vec F S1x1024 .f32) (x2 x3 : Vec F S1024x2816 .bf16)
    (x4 : Vec F S2816x1024 .bf16) :
    out0_5 x0 x1 x2 x3 x4 = addf x0
      (addf (addf (addf (addf (addf (addf (addf (addf (addf (addf
        (chunk (k0_pay2 x0 x1) (View.ld x2 r0_2) (View.ld x3 r0_2) (View.ld x4 r0_3))
        (chunk (k0_pay2 x0 x1) (View.ld x2 r0_4) (View.ld x3 r0_4) (View.ld x4 r0_5)))
        (chunk (k0_pay2 x0 x1) (View.ld x2 r0_6) (View.ld x3 r0_6) (View.ld x4 r0_7)))
        (chunk (k0_pay2 x0 x1) (View.ld x2 r0_8) (View.ld x3 r0_8) (View.ld x4 r0_9)))
        (chunk (k0_pay2 x0 x1) (View.ld x2 r0_10) (View.ld x3 r0_10) (View.ld x4 r0_11)))
        (chunk (k0_pay2 x0 x1) (View.ld x2 r0_12) (View.ld x3 r0_12) (View.ld x4 r0_13)))
        (chunk (k0_pay2 x0 x1) (View.ld x2 r0_14) (View.ld x3 r0_14) (View.ld x4 r0_15)))
        (chunk (k0_pay2 x0 x1) (View.ld x2 r0_16) (View.ld x3 r0_16) (View.ld x4 r0_17)))
        (chunk (k0_pay2 x0 x1) (View.ld x2 r0_18) (View.ld x3 r0_18) (View.ld x4 r0_19)))
        (chunk (k0_pay2 x0 x1) (View.ld x2 r0_20) (View.ld x3 r0_20) (View.ld x4 r0_21)))
        (chunk (k0_pay2 x0 x1) (View.ld x2 r0_22) (View.ld x3 r0_22) (View.ld x4 r0_23))) := by
  have hz : (![0, 0] : Fin S512x1024.rank → Nat) = fun _ => 0 := funext fun a => by fin_cases a <;> rfl
  have hz1 : (![0, 0] : Fin S1x1024.rank → Nat) = fun _ => 0 := funext fun a => by fin_cases a <;> rfl
  unfold out0_5 k0_pay13
  rw [View.canon_unit_zero hz, View.ld_unit_zero hz, View.ld_unit_zero hz1]
  rfl

end

/-! ## At an index -/

/-- The normalised rows. -/
theorem norm_apply (x0 : Vec Ideal S512x1024 .f32) (x1 : Vec Ideal S1x1024 .f32) (r : Fin 512) (k : Fin 1024) :
    k0_pay2 (F := Ideal) x0 x1 (ix2 r k) = xn (fun j => x0 (ix2 r j)) (fun j => x1 (ix2 0 j)) k := by
  unfold xn
  pointwise [k0_pay2]

/-- One product of 256 hidden units. -/
theorem chunk_apply (z : FVec Ideal S512x1024 .bf16) (wg wu : Vec Ideal S1024x256 .bf16) (wd : Vec Ideal S256x1024 .bf16)
    (r : Fin 512) (d : Fin 1024) :
    chunk (F := Ideal) z wg wu wd (ix2 r d)
      = ∑ f : Fin 256, act (fun k => z (ix2 r k)) (fun k => wg (ix2 k f)) (fun k => wu (ix2 k f)) * wd (ix2 f d) := by
  unfold act
  pointwise [chunk]

/-- Eleven sums of 256 in a row are one sum of 2816. -/
theorem sum_chunks (F : Fin 2816 → EReal) :
    ∑ f, F f = ∑ c : Fin 11, ∑ j : Fin 256, F ⟨256 * c.val + j.val, by omega⟩ := by
  rw [← Finset.sum_product']
  refine (Fintype.sum_equiv (finProdFinEquiv (m := 11) (n := 256)) _ _ fun p => ?_).symm
  exact congrArg F (Fin.ext (by simp [finProdFinEquiv]; omega))

/-- A sum of eleven, spelled out from the left. -/
theorem sum_eleven (G : Fin 11 → EReal) :
    ∑ c, G c = G 0 + G 1 + G 2 + G 3 + G 4 + G 5 + G 6 + G 7 + G 8 + G 9 + G 10 := by
  simp only [Fin.sum_univ_castSucc, Finset.univ_eq_empty, Finset.sum_empty, zero_add]
  rfl

/-- The output block at a row and a column. -/
theorem out_apply (x0 : Vec Ideal S512x1024 .f32) (x1 : Vec Ideal S1x1024 .f32) (x2 x3 : Vec Ideal S1024x2816 .bf16)
    (x4 : Vec Ideal S2816x1024 .bf16) (r : Fin 512) (d : Fin 1024) :
    out0_5 (F := Ideal) x0 x1 x2 x3 x4 (ix2 r d)
      = row (fun k => x0 (ix2 r k)) (fun k => x1 (ix2 0 k)) (fun k f => x2 (ix2 k f)) (fun k f => x3 (ix2 k f))
          (fun f d => x4 (ix2 f d)) d := by
  rw [out_eq_chunks]
  unfold row
  rw [sum_chunks, sum_eleven]
  simp only [addf_apply, chunk_apply, norm_apply, Ideal.addf_def]
  refine congrArg (x0 (ix2 r d) + ·) ?_
  iterate 10 refine congrArg₂ (· + ·) ?_ ?_
  all_goals
    refine Finset.sum_congr rfl fun f _ => ?_
    pointwise

end Cert.Proof.Ffn

end
-- ==== Proof.Ffn.Array.lean ====
/-
  THE FEED-FORWARD KERNEL'S RESULT ARRAY, at the ideal instance: row `R` of the result is the feed-forward part of row `R` of
  the activations (`final`), whatever the arguments hold. Grid point `t` writes rows 512 t … 512 t + 511 from the same rows
  of the activations and from the whole weights, which the host has cast (the identity here) and given a unit axis.
-/
module

public import proofs.«01_k».proof.Proof.Ffn.Block
public import proofs.«01_k».proof.Proof.Gen.KernelFfnIdeal.Value
public import Idealize.ShloMosaic.Lib.Pipeline.ValueKit
public import Idealize.ShloMosaic.Lib.StableHlo.ReadAt

@[expose] public section

set_option maxRecDepth 16384

noncomputable section

namespace Cert.Proof.Ffn

open Idealize.ShloMosaic Idealize.ShloMosaic.TcCoe Idealize.SL.Sem Cert.KernelFfnIdeal Cert.KernelFfnIdeal.Gen
open Cert.KernelFfnIdeal.Value

/-- The feed-forward part of every row of the activations. -/
def ffn (x : Vec Ideal S16384x1024 .f32) (g : Vec Ideal S1024 .f32) (wg wu : Vec Ideal S1024x2816 .f32)
    (wd : Vec Ideal S2816x1024 .f32) : Vec Ideal S16384x1024 .f32 := fun j =>
  row (fun k => x (ix2 (j 0) k)) (fun k => g (ix1 k)) (fun k f => wg (ix2 k f)) (fun k f => wu (ix2 k f))
    (fun f d => wd (ix2 f d)) (j 1)

variable (m : (ℓ : Loc nD τ sig) → Buf (Elt Ideal) ℓ) (ρ : Dev nD → PrngReg)

/-! ## What the host prepares -/

theorem V_v0 (c : Dev nD) (k : Fin 1024) : V m c main_v0 (ix2 0 k) = m ((c : Thread nD τ).loc main_arg1) (ix1 k) := by
  unfold V; after_reads_at

theorem V_v1 (c : Dev nD) (k : Fin 1024) (f : Fin 2816) :
    V m c main_v1 (ix2 k f) = m ((c : Thread nD τ).loc main_arg2) (ix2 k f) := by
  unfold V; after_reads_at

theorem V_v2 (c : Dev nD) (k : Fin 1024) (f : Fin 2816) :
    V m c main_v2 (ix2 k f) = m ((c : Thread nD τ).loc main_arg3) (ix2 k f) := by
  unfold V; after_reads_at

theorem V_v3 (c : Dev nD) (f : Fin 2816) (d : Fin 1024) :
    V m c main_v3 (ix2 f d) = m ((c : Thread nD τ).loc main_arg4) (ix2 f d) := by
  unfold V; after_reads_at

/-! ## The windows' blocks -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

theorem lt32 (t : Fin cfg0.N) (r : Fin 512) : 512 * t.val + r.val < 16384 := by
  have : t.val < 32 := t.isLt
  omega

theorem iblk0 (c : Dev nD) (t : Fin cfg0.N) (r : Fin 512) (k : Fin 1024) :
    iblk m c 0 t (ix2 r k) = m ((c : Thread nD τ).loc main_arg0) (ix2 ⟨512 * t.val + r.val, lt32 t r⟩ k) := by
  obtain ⟨e0, e1⟩ := idx0 t
  rw [← V_main_arg0 m c]
  show V m c main_arg0 (((cfg0.win 0).blk t).view.emb (ix2 r k)) = _
  refine congrArg _ (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * k.val = k.val; omega

theorem iblk1 (c : Dev nD) (t : Fin cfg0.N) (k : Fin 1024) :
    iblk m c 1 t (ix2 0 k) = m ((c : Thread nD τ).loc main_arg1) (ix1 k) := by
  obtain ⟨e0, e1⟩ := idx1 t
  rw [← V_v0 m c]
  show V m c main_v0 (((cfg0.win 1).blk t).view.emb (ix2 0 k)) = _
  refine congrArg _ (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

theorem iblk2 (c : Dev nD) (t : Fin cfg0.N) (k : Fin 1024) (f : Fin 2816) :
    iblk m c 2 t (ix2 k f) = m ((c : Thread nD τ).loc main_arg2) (ix2 k f) := by
  obtain ⟨e0, e1⟩ := idx2 t
  rw [← V_v1 m c]
  show V m c main_v1 (((cfg0.win 2).blk t).view.emb (ix2 k f)) = _
  refine congrArg _ (funext fun a => Fin.ext ?_)
  match a with
  | ⟨0, _⟩ => show win0_2.index t (0 : Fin 2) * 1024 + 1 * k.val = k.val; omega
  | ⟨1, _⟩ => show win0_2.index t (1 : Fin 2) * 2816 + 1 * f.val = f.val; omega

theorem iblk3 (c : Dev nD) (t : Fin cfg0.N) (k : Fin 1024) (f : Fin 2816) :
    iblk m c 3 t (ix2 k f) = m ((c : Thread nD τ).loc main_arg3) (ix2 k f) := by
  obtain ⟨e0, e1⟩ := idx3 t
  rw [← V_v2 m c]
  show V m c main_v2 (((cfg0.win 3).blk t).view.emb (ix2 k f)) = _
  refine congrArg _ (funext fun a => Fin.ext ?_)
  match a with
  | ⟨0, _⟩ => show win0_3.index t (0 : Fin 2) * 1024 + 1 * k.val = k.val; omega
  | ⟨1, _⟩ => show win0_3.index t (1 : Fin 2) * 2816 + 1 * f.val = f.val; omega

theorem iblk4 (c : Dev nD) (t : Fin cfg0.N) (f : Fin 2816) (d : Fin 1024) :
    iblk m c 4 t (ix2 f d) = m ((c : Thread nD τ).loc main_arg4) (ix2 f d) := by
  obtain ⟨e0, e1⟩ := idx4 t
  rw [← V_v3 m c]
  show V m c main_v3 (((cfg0.win 4).blk t).view.emb (ix2 f d)) = _
  refine congrArg _ (funext fun a => Fin.ext ?_)
  match a with
  | ⟨0, _⟩ => show win0_4.index t (0 : Fin 2) * 2816 + 1 * f.val = f.val; omega
  | ⟨1, _⟩ => show win0_4.index t (1 : Fin 2) * 1024 + 1 * d.val = d.val; omega

theorem emb5 (t : Fin cfg0.N) (r : Fin 512) (d : Fin 1024) :
    ((cfg0.win 5).blk t).view.emb (ix2 r d) = ix2 ⟨512 * t.val + r.val, lt32 t r⟩ d := by
  obtain ⟨e0, e1⟩ := idx5 t
  refine funext fun a => Fin.ext ?_
  match a with
  | ⟨0, _⟩ => show win0_5.index t (0 : Fin 2) * 512 + 1 * r.val = 512 * t.val + r.val; omega
  | ⟨1, _⟩ => show win0_5.index t (1 : Fin 2) * 1024 + 1 * d.val = d.val; omega

/-! ## The array after the run -/

/-- Every index of the result array is in some point's block. -/
theorem cover5 (i : S16384x1024.Idx) :
    ∃ t : Fin cfg0.N, (cfg0.win 5).flush t = true ∧ i ∈ ((cfg0.win 5).blk t).view.set := by
  obtain ⟨R, d, rfl⟩ : ∃ (R : Fin 16384) (d : Fin 1024), i = ix2 R d := ⟨i 0, i 1, eq_ix2 i⟩
  have hR : R.val / 512 < 32 := by omega
  refine ⟨⟨R.val / 512, hR⟩, flush0_5 _, ?_⟩
  have h := ((cfg0.win 5).blk (⟨R.val / 512, hR⟩ : Fin cfg0.N)).view.emb_mem_set (ix2 (⟨R.val % 512, by omega⟩ : Fin 512) d)
  have e : ((cfg0.win 5).blk (⟨R.val / 512, hR⟩ : Fin cfg0.N)).view.emb (ix2 (⟨R.val % 512, by omega⟩ : Fin 512) d)
      = ix2 R d := (emb5 _ _ _).trans (congrArg (ix2 · d) (Fin.ext (Nat.div_add_mod R.val 512)))
  exact e ▸ h

/-- The result array: the feed-forward part of every row. -/
theorem final (c : Dev nD) : (dats m 0 c).arrAt 5 cfg0.N
    = ffn (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_cover 5 _ (fun t _ => ?_) fun i => ?_
  · rw [flushed5]
    funext y
    obtain ⟨r, d, rfl⟩ : ∃ (r : Fin 512) (d : Fin 1024), y = ix2 r d := ⟨y 0, y 1, eq_ix2 y⟩
    show out0_5 _ _ _ _ _ (ix2 r d) = ffn _ _ _ _ _ (((cfg0.win 5).blk t).view.emb (ix2 r d))
    rw [emb5, out_apply]
    simp only [iblk0, iblk1, iblk2, iblk3, iblk4]
    rfl
  · exact cover5 i

end Cert.Proof.Ffn

end
-- ==== Proof.Ffn.Equal.lean ====
/-
  THE FEED-FORWARD KERNEL COMPUTES ITS REFERENCE, at the ideal instance: the reference's composed term, at a row and a
  column, is the same row of the specification (`ref_eq`), so from equal arguments the two runs end with equal results
  (`algebraic`).
-/
module

public import proofs.«01_k».proof.Defs
public import proofs.«01_k».proof.Proof.Ffn.Array
public import proofs.«01_k».proof.Proof.Gen.ReferenceFfnIdeal.Run

@[expose] public section

set_option maxRecDepth 16384

noncomputable section

namespace Cert.Proof.Ffn

open Idealize.ShloMosaic Idealize.ShloMosaic.TcCoe Idealize.SL.Sem

/-- `Cert.algebraic_KernelFfnIdeal_ReferenceFfnIdeal`: both run, and from equal arguments the results are equal. -/
theorem algebraic : Cert.algebraic_KernelFfnIdeal_ReferenceFfnIdeal (hKernelFfnIdeal := Cert.KernelFfnIdeal.Gen.facts)
    (hReferenceFfnIdeal := Cert.ReferenceFfnIdeal.Gen.facts) := by
  intro m g m' g' _ hargs
  refine ⟨fun c => ffn (m ((c.tc : Thread _ _).loc Cert.KernelFfnIdeal.main_arg0))
      (m ((c.tc : Thread _ _).loc Cert.KernelFfnIdeal.main_arg1)) (m ((c.tc : Thread _ _).loc Cert.KernelFfnIdeal.main_arg2))
      (m ((c.tc : Thread _ _).loc Cert.KernelFfnIdeal.main_arg3)) (m ((c.tc : Thread _ _).loc Cert.KernelFfnIdeal.main_arg4)),
    (θ_run (Cert.KernelFfnIdeal.defs (F := Ideal)) _ _).mono (fun r h c => ⟨(h c).1.trans (final m c), (h c).2⟩)
      (Cert.KernelFfnIdeal.Value.run_blocks (F := Ideal) m g), ?_⟩
  refine (θ_run (Cert.ReferenceFfnIdeal.defs (F := Ideal)) _ _).mono (fun r h c => ?_)
    (Cert.ReferenceFfnIdeal.Value.run (F := Ideal) m' g')
  refine ⟨(h c).1.trans ?_, (h c).2⟩
  obtain ⟨h0, h1, h2, h3, h4⟩ := hargs c
  rw [h0, h1, h2, h3, h4]
  funext j
  obtain ⟨R, d, rfl⟩ : ∃ (R : Fin 16384) (d : Fin 1024), j = ix2 R d := ⟨j 0, j 1, eq_ix2 j⟩
  unfold ffn row act xn
  pointwise
  rfl

end Cert.Proof.Ffn

end
-- ==== Proof.Nsa.Soft.lean ====
/-
  THE MATHEMATICS OF A MASKED SOFTMAX over real scores, at the ideal instance: with a greatest visible score the kernel's
  exponentials (base 2, of scores scaled by 1/(8 ln 2)) and the reference's (base e, of scores scaled by 1/8) are the same
  real numbers (`wt`), with no visible key both are zero; a division by a positive real goes through a sum.
-/
module

public import Idealize.ShloMosaic.Lib.Pointwise

@[expose] public section

noncomputable section

namespace Cert.Proof.Nsa

open Idealize.ShloMosaic

/-! ## Constants -/

theorem bits_ninf : Ideal.ofBits FTy.f32 4286578688#32 = ⊥ := by
  simp [Ideal.ofBits, Ideal.ieee]
theorem bits_pinf : Ideal.ofBits FTy.f32 2139095040#32 = ⊤ := by
  simp [Ideal.ofBits, Ideal.ieee]
theorem bits_eighth : Ideal.ofBits FTy.f32 1040187392#32 = ((1 / 8 : ℝ) : EReal) := by
  simp only [Ideal.ofBits, Ideal.ieee]; simp; rw [← EReal.coe_mul]; norm_num
theorem bits_two : Ideal.ofBits FTy.f32 1073741824#32 = ((2 : ℝ) : EReal) := by
  simp only [Ideal.ofBits, Ideal.ieee]; simp; rw [← EReal.coe_mul]; norm_num
/-- The floor of a sum of exponentials is a positive real at most one. -/
theorem bits_tiny : ∃ ε : ℝ, Ideal.ofBits FTy.f32 228737632#32 = (ε : EReal) ∧ 0 < ε ∧ ε ≤ 1 := by
  refine ⟨_, by simp [Ideal.ofBits, Ideal.ieee]; rfl, ?_, ?_⟩ <;> norm_num

/-- The kernel's scale of the queries. -/
def lam : ℝ := 1 / 8 / Real.log 2

theorem log2_pos : 0 < Real.log 2 := Real.log_pos (by norm_num)

theorem scale_eq : Ideal.div (Ideal.ofBits FTy.f32 1040187392#32) (Ideal.log (Ideal.ofBits FTy.f32 1073741824#32)) = (lam : EReal) := by
  have h := log2_pos
  rw [bits_eighth, bits_two, Ideal.log_coe, if_neg (by norm_num)]
  rw [Ideal.div, if_neg (by exact_mod_cast h.ne'), ← EReal.coe_inv, ← EReal.coe_mul]
  rfl

/-! ## Sums of reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A division by a positive real is a multiplication by a positive real, -/
theorem div_real (x : EReal) {L : ℝ} (h : 0 < L) : Ideal.div x (L : EReal) = x * ((L⁻¹ : ℝ) : EReal) := by
  rw [Ideal.div, if_neg (by exact_mod_cast h.ne'), ← EReal.coe_inv]

/-- and goes through a sum. -/
theorem sum_mul_real {ι : Type} (s : Finset ι) (f : ι → EReal) {r : ℝ} (h : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast h) (EReal.coe_ne_top r) _ _

/-! ## Masked exponentials -/

section
variable {ι : Type} [Fintype ι] (vis : ι → Prop) [DecidablePred vis] (x : ι → ℝ)

/-- The weight of key `n` when the greatest visible score is `M`. -/
def wt (M : ℝ) (n : ι) : ℝ := if vis n then Real.exp ((x n - M) * (1 / 8)) else 0

/-- A masked score. -/
def msk (c : ℝ) (n : ι) : EReal := if vis n then ((x n * c : ℝ) : EReal) else ⊥

theorem fold_max (f : ι → EReal) (n0 : ι) (h : ∀ n, f n ≤ f n0) : Finset.univ.fold max ⊥ f = f n0 := by
  refine le_antisymm ((Finset.fold_max_le _).2 ⟨bot_le, fun n _ => h n⟩) ?_
  exact (Finset.le_fold_max _).2 (Or.inr ⟨n0, Finset.mem_univ _, le_rfl⟩)

theorem fold_max_msk {c : ℝ} (hc : 0 ≤ c) {n0 : ι} (h0 : vis n0) (h : ∀ n, vis n → x n ≤ x n0) :
    Finset.univ.fold max ⊥ (msk vis x c) = ((x n0 * c : ℝ) : EReal) := by
  rw [fold_max _ n0, msk, if_pos h0]
  intro n
  unfold msk
  rw [if_pos h0]
  split
  · next hn => exact_mod_cast mul_le_mul_of_nonneg_right (h n hn) hc
  · exact bot_le

theorem fold_max_none {c : ℝ} (h : ∀ n, ¬ vis n) : Finset.univ.fold max ⊥ (msk vis x c) = ⊥ := by
  have : msk vis x c = fun _ => ⊥ := funext fun n => if_neg (h n)
  rw [this]
  exact le_antisymm ((Finset.fold_max_le _).2 ⟨le_rfl, fun n _ => le_rfl⟩) bot_le

theorem exp2_msk (M : ℝ) (n : ι) : Ideal.exp2 (msk vis x lam n - ((M * lam : ℝ) : EReal)) = (wt vis x M n : EReal) := by
  unfold msk wt
  split
  · rw [← EReal.coe_sub, Ideal.exp2_coe]
    congr 1
    show (2 : ℝ) ^ (x n * lam - M * lam) = _
    rw [Real.rpow_def_of_pos (by norm_num)]
    congr 1
    have h := log2_pos.ne'
    unfold lam
    field_simp
  · rw [sub_eq_add_neg, EReal.bot_add]; rfl

theorem exp_msk (M : ℝ) (n : ι) :
    (if vis n then Ideal.exp (msk vis x (1 / 8) n - ((M * (1 / 8) : ℝ) : EReal)) else 0) = (wt vis x M n : EReal) := by
  unfold msk wt
  split
  · rw [← EReal.coe_sub, Ideal.exp_coe, ← sub_mul]
  · rfl

/-- Either there is a greatest visible score or nothing is visible. -/
theorem greatest : (∃ n0, vis n0 ∧ ∀ n, vis n → x n ≤ x n0) ∨ ∀ n, ¬ vis n := by
  classical
  by_cases h : ∃ n, vis n
  · left
    obtain ⟨n1, h1⟩ := h
    obtain ⟨n0, m0, hm⟩ := Finset.exists_max_image (Finset.univ.filter vis) x ⟨n1, by simpa using h1⟩
    exact ⟨n0, (Finset.mem_filter.1 m0).2, fun n hn => hm n (by simpa using hn)⟩
  · right
    exact fun n hn => h ⟨n, hn⟩

/-- The reference's exponentials as it forms them: the maximum replaced by zero when it is not finite. -/
def refExp (n : ι) : EReal :=
  if vis n then
    Ideal.exp (msk vis x (1 / 8) n
      - (if max (Finset.univ.fold max ⊥ (msk vis x (1 / 8))) (-(Finset.univ.fold max ⊥ (msk vis x (1 / 8)))) < ⊤
          then Finset.univ.fold max ⊥ (msk vis x (1 / 8)) else 0))
  else 0

theorem refExp_eq {n0 : ι} (h0 : vis n0) (h : ∀ n, vis n → x n ≤ x n0) (n : ι) : refExp vis x n = (wt vis x (x n0) n : EReal) := by
  unfold refExp
  have hm : max ((x n0 * (1 / 8) : ℝ) : EReal) (-((x n0 * (1 / 8) : ℝ) : EReal)) < ⊤ := by
    rw [← EReal.coe_neg, max_lt_iff]
    exact ⟨EReal.coe_lt_top _, EReal.coe_lt_top _⟩
  rw [fold_max_msk vis x (by norm_num) h0 h, if_pos hm, exp_msk]

theorem refExp_none (h : ∀ n, ¬ vis n) (n : ι) : refExp vis x n = 0 := if_neg (h n)

/-- The kernel's, in the compressed branch. -/
def kerExp (n : ι) : EReal :=
  Ideal.exp2 (msk vis x lam n
    - (if Finset.univ.fold max ⊥ (msk vis x lam) = ⊥ then 0 else Finset.univ.fold max ⊥ (msk vis x lam)))

theorem lam_pos : 0 < lam := by have := log2_pos; unfold lam; positivity

theorem kerExp_eq_refExp (n : ι) : kerExp vis x n = refExp vis x n := by
  rcases greatest vis x with ⟨n0, h0, h⟩ | h
  · rw [refExp_eq vis x h0 h, kerExp, fold_max_msk vis x lam_pos.le h0 h, if_neg (EReal.coe_ne_bot _), exp2_msk]
  · rw [refExp_none vis x h, kerExp, fold_max_none vis x h, if_pos rfl, msk, if_neg (h n)]
    simp

end

end Cert.Proof.Nsa

end
-- ==== Proof.Nsa.Block.lean ====
/-
  THE COMPRESSED BRANCH of one grid point, at the ideal instance: its queries, its masks and its scores at an index, and the
  branch in the reference's form, a sum of values weighted by quotients (`ocmp_real`).
-/
module

public import proofs.«01_k».proof.Proof.Ideal.Vals
public import proofs.«01_k».proof.Proof.Nsa.Soft
public import Idealize.ShloMosaic.Lib.Affine
public import Idealize.ShloMosaic.Lib.Routing.Words
public import Idealize.ShloMosaic.Lib.StableHlo.Predicate
public import Idealize.ShloMosaic.Lib.Pointwise

@[expose] public section

set_option maxRecDepth 16384

noncomputable section

namespace Cert.Proof.Nsa

open Idealize.ShloMosaic Idealize.SL.Sem Cert.KernelIdeal Cert.KernelIdeal.Gen Cert.Proof.Ideal

variable (i : grid0.Coords) (X : Ins Ideal)

/-- The head of a column of scores, and its query. -/
abbrev hd (c : Fin 2048) : Fin 4 := ⟨c.val / 512, by omega⟩
abbrev qr (c : Fin 2048) : Fin 512 := ⟨c.val % 512, by omega⟩

/-- A select on a condition's word. -/
theorem select_if {α : Type} {P : Prop} [Decidable P] {w : BitVec 1} (h : w = 1#1 ↔ P) (x y : α) :
    Scalar.select w x y = if P then x else y := by
  unfold Scalar.select
  by_cases hP : P
  · rw [if_pos hP, h.2 hP]; rfl
  · rw [if_neg hP]; exact if_neg fun e => hP (h.1 e)

theorem qcat_apply (d : Fin 64) (c : Fin 2048) : qcat X (ix2 d c) = X.q (ix4 0 (hd c) d (qr c)) := by
  have hc := c.isLt
  unfold qcat
  pointwise [k0_pay40]
  split
  · show X.q _ = _
    refine congrArg _ (funext fun a => Fin.ext ?_)
    match a with
    | ⟨0, _⟩ => rfl
    | ⟨1, _⟩ => show 0 + 1 * 0 = c.val / 512; omega
    | ⟨2, _⟩ => show 0 + 1 * d.val = d.val; omega
    | ⟨3, _⟩ => show 0 + 1 * c.val = c.val % 512; omega
  split
  · show X.q _ = _
    refine congrArg _ (funext fun a => Fin.ext ?_)
    match a with
    | ⟨0, _⟩ => rfl
    | ⟨1, _⟩ => show 1 + 1 * 0 = c.val / 512; omega
    | ⟨2, _⟩ => show 0 + 1 * d.val = d.val; omega
    | ⟨3, _⟩ => show 0 + 1 * (c.val - 512) = c.val % 512; omega
  split
  · show X.q _ = _
    refine congrArg _ (funext fun a => Fin.ext ?_)
    match a with
    | ⟨0, _⟩ => rfl
    | ⟨1, _⟩ => show 2 + 1 * 0 = c.val / 512; omega
    | ⟨2, _⟩ => show 0 + 1 * d.val = d.val; omega
    | ⟨3, _⟩ => show 0 + 1 * (c.val - 512 - 512) = c.val % 512; omega
  · show X.q _ = _
    refine congrArg _ (funext fun a => Fin.ext ?_)
    match a with
    | ⟨0, _⟩ => rfl
    | ⟨1, _⟩ => show 3 + 1 * 0 = c.val / 512; omega
    | ⟨2, _⟩ => show 0 + 1 * d.val = d.val; omega
    | ⟨3, _⟩ => show 0 + 1 * (c.val - 512 - 512 - 512) = c.val % 512; omega

theorem kcld_apply (n : Fin 512) (d : Fin 64) : kcld X.kc (ix4 0 0 n d) = X.kc (ix4 0 0 n d) := by
  show X.kc _ = _
  refine congrArg _ (funext fun a => Fin.ext ?_)
  match a with
  | ⟨0, _⟩ => rfl
  | ⟨1, _⟩ => rfl
  | ⟨2, _⟩ => show 0 + 1 * n.val = n.val; omega
  | ⟨3, _⟩ => show 0 + 1 * d.val = d.val; omega

theorem vcld_apply (e : Fin 64) (n : Fin 512) : vcld X.vc (ix4 0 0 e n) = X.vc (ix4 0 0 e n) := by
  show X.vc _ = _
  refine congrArg _ (funext fun a => Fin.ext ?_)
  match a with
  | ⟨0, _⟩ => rfl
  | ⟨1, _⟩ => rfl
  | ⟨2, _⟩ => show 0 + 1 * e.val = e.val; omega
  | ⟨3, _⟩ => show 0 + 1 * n.val = n.val; omega

theorem gtld_apply (k : Fin 16) (r : Fin 512) : gtld X.gt (ix4 0 0 k r) = X.gt (ix4 0 0 k r) := by
  show X.gt _ = _
  refine congrArg _ (funext fun a => Fin.ext ?_)
  match a with
  | ⟨0, _⟩ => rfl
  | ⟨1, _⟩ => rfl
  | ⟨2, _⟩ => show 0 + 1 * k.val = k.val; omega
  | ⟨3, _⟩ => show 0 + 1 * r.val = r.val; omega

/-! ## The compressed branch -/

theorem mod512 : ∀ c : Fin 2048, IntOp.remsi ArithUnit.vector (BitVec.ofNat 32 c.val) 512#32 = BitVec.ofNat 32 (c.val % 512) := fun c =>
  Routing.remsi_word _ (by omega) (by omega) (by omega)

/-- Compressed key `n` is visible from column `c`: its last position is not after the query's. -/
abbrev visC (c : Fin 2048) (n : Fin 512) : Prop := 16 * n.val + 31 ≤ 512 * (i 2).val + c.val % 512

theorem i2_lt : (i 2).val < 16 := (i 2).isLt

theorem visC_word (c : Fin 2048) (n : Fin 512) :
    IntOp.cmpi CmpIPredicate.sle (IntOp.addi (IntOp.muli (BitVec.ofNat 32 n.val) 16#32) 31#32)
        (IntOp.addi (Scalar.muli (BitVec.ofNat 32 (i 2).val) 512#32)
          (IntOp.remsi ArithUnit.vector (BitVec.ofNat 32 c.val) 512#32)) = 1#1 ↔ visC i c n := by
  have h2 := i2_lt i
  have hc := c.isLt
  have hn := n.isLt
  rw [mod512]
  have e1 : IntOp.addi (IntOp.muli (BitVec.ofNat 32 n.val) 16#32) 31#32 = BitVec.ofNat 32 (16 * n.val + 31) := by
    apply BitVec.eq_of_toNat_eq
    simp [IntOp.addi, IntOp.muli]
    omega
  have e2 : IntOp.addi (Scalar.muli (BitVec.ofNat 32 (i 2).val) 512#32) (BitVec.ofNat 32 (c.val % 512))
      = BitVec.ofNat 32 (512 * (i 2).val + c.val % 512) := by
    apply BitVec.eq_of_toNat_eq
    simp [IntOp.addi, Scalar.muli, IntOp.muli]
    omega
  rw [e1, e2]
  unfold IntOp.cmpi
  dsimp only
  rw [StableHlo.Predicate.sle_ofNat_iff _ _ (by omega) (by omega)]

theorem pcmp_apply (n : Fin 512) (c : Fin 2048) : pcmp i X (ix2 n c)
    = if visC i c n then ∑ d, X.kc (ix4 0 0 n d) * X.q (ix4 0 (hd c) d (qr c)) else ⊥ := by
  have e : k0_pay40 (qld0 X.q) (qld1 X.q) (qld2 X.q) (qld3 X.q) = qcat X := rfl
  unfold pcmp
  pointwise [k0_pay41]
  rw [e, select_if (visC_word i c n), bits_ninf]
  simp only [qcat_apply, kcld_apply]

theorem rcmp_apply (c : Fin 2048) : rcmp i X (ix2 0 c) = Finset.univ.fold max ⊥ (fun n => pcmp i X (ix2 n c)) := by
  have e : k0_pay41 i (qld0 X.q) (qld1 X.q) (qld2 X.q) (qld3 X.q) (kcld X.kc) = pcmp i X := rfl
  unfold rcmp
  pointwise [k0_pay42]
  rw [bits_ninf, e]

theorem pay43_apply (P : FVec Ideal S512x2048 .f32) (R : FVec Ideal S1x2048 .f32) (n : Fin 512) (c : Fin 2048) :
    k0_pay43 P R (ix2 n c) = Ideal.div (Ideal.exp2 (P (ix2 n c) - if R (ix2 0 c) = ⊥ then 0 else R (ix2 0 c)))
      (max (∑ x, Ideal.exp2 (P (ix2 x c) - if R (ix2 0 c) = ⊥ then 0 else R (ix2 0 c))) (Ideal.ofBits FTy.f32 228737632#32)) := by
  pointwise [k0_pay43]
  rw [bits_ninf]
  rfl

theorem pay44_apply (P : FVec Ideal S512x2048 .f32) (R : FVec Ideal S1x2048 .f32) (V : Vec Ideal S1x1x64x512 .bf16)
    (e : Fin 64) (c : Fin 2048) : k0_pay44 P R V (ix2 e c) = ∑ n, V (ix4 0 0 e n) * k0_pay43 P R (ix2 n c) := by
  pointwise [k0_pay44]

section
variable (b : Fin 64 → ℝ) (a : Fin 512 → Fin 64 → ℝ)

/-- The unscaled scores. -/
abbrev raw {N : Nat} (b : Fin 64 → ℝ) (a : Fin N → Fin 64 → ℝ) (n : Fin N) : ℝ := ∑ d, a n d * b d

theorem scaled_sum {N : Nat} (b : Fin 64 → ℝ) (a : Fin N → Fin 64 → ℝ) (n : Fin N) :
    ∑ d, ((a n d : ℝ) : EReal) * ((b d : EReal) * (lam : EReal)) = ((raw b a n * lam : ℝ) : EReal) := by
  simp only [← EReal.coe_mul]
  rw [← coe_sum, Finset.sum_mul]
  simp only [mul_assoc]

theorem pcmp_real (c : Fin 2048) (hb : ∀ d, X.q (ix4 0 (hd c) d (qr c)) = (b d : EReal) * (lam : EReal))
    (ha : ∀ n d, X.kc (ix4 0 0 n d) = (a n d : EReal)) (n : Fin 512) :
    pcmp i X (ix2 n c) = msk (visC i c) (raw b a) lam n := by
  rw [pcmp_apply]
  unfold msk
  simp only [hb, ha, scaled_sum]

/-- The compressed branch, in the reference's form. -/
theorem ocmp_real (c : Fin 2048) (hb : ∀ d, X.q (ix4 0 (hd c) d (qr c)) = (b d : EReal) * (lam : EReal))
    (ha : ∀ n d, X.kc (ix4 0 0 n d) = (a n d : EReal)) (e : Fin 64) :
    ocmp i X (ix2 e c) = ∑ n, X.vc (ix4 0 0 e n) * Ideal.div (refExp (visC i c) (raw b a) n)
      (max (∑ k, refExp (visC i c) (raw b a) k) (Ideal.ofBits FTy.f32 228737632#32)) := by
  have hp : (fun n => pcmp i X (ix2 n c)) = msk (visC i c) (raw b a) lam := funext (pcmp_real i X b a c hb ha)
  have he : ∀ n, Ideal.exp2 (pcmp i X (ix2 n c) - if rcmp i X (ix2 0 c) = ⊥ then 0 else rcmp i X (ix2 0 c))
      = refExp (visC i c) (raw b a) n := fun n => by
    rw [← kerExp_eq_refExp, rcmp_apply, hp, pcmp_real i X b a c hb ha, kerExp]
  unfold ocmp
  rw [pay44_apply]
  simp only [pay43_apply, vcld_apply, he]
end

end Cert.Proof.Nsa

end
-- ==== Proof.Nsa.Window.lean ====
/-
  THE WINDOW BRANCH AND THE BLOCK OF RESULTS, at the ideal instance: the branch's 1024 keys are the ones the reference's mask
  leaves out of 8192, so its quotient of two sums is the reference's sum of quotients; and with the selected branch's gate
  shut the block is the gated sum of the other two.
-/
module

public import proofs.«01_k».proof.Proof.Nsa.Block

@[expose] public section

set_option maxRecDepth 1024

noncomputable section

namespace Cert.Proof.Nsa

open Idealize.ShloMosaic Idealize.SL.Sem Cert.KernelIdeal Cert.KernelIdeal.Gen Cert.Proof.Ideal

variable (i : grid0.Coords) (X : Ins Ideal)

/-! ## Where the window starts -/

/-- The first key of the window of the grid point's queries. -/
def w0 : Nat := 512 * ((i 2).val - 1)

theorem w0_eq : w0 i = 512 * ((i 2).val - 1) := rfl

def ptOf (v : Fin 16) : grid0.Coords := fun a => match a with | ⟨0, _⟩ => (0 : Fin 2) | ⟨1, _⟩ => (0 : Fin 4) | ⟨2, _⟩ => v

theorem off13_all : ∀ v : Fin 16, k0_off13 (ptOf v) (0 : Fin 3) = min v.val 1 := by decide +kernel
theorem off14_all : ∀ v : Fin 16, k0_off14 (ptOf v) (2 : Fin 4) = 512 * (v.val - 1) := by decide +kernel
theorem off15_all : ∀ (v : Fin 16) (k : Fin 8), k0_off15 (ptOf v) (BitVec.ofNat 32 k.val) (2 : Fin 5) = 4 * (v.val - 1) + k.val := by
  decide +kernel
theorem off13 : k0_off13 i (0 : Fin 3) = min (i 2).val 1 := off13_all (i 2)
theorem off14 : k0_off14 i (2 : Fin 4) = w0 i := off14_all (i 2)
theorem off15 (k : Fin 8) : k0_off15 i (BitVec.ofNat 32 k.val) (2 : Fin 5) = 4 * ((i 2).val - 1) + k.val := off15_all (i 2) k

/-- The window's key `j` among all the keys. -/
def wk (j : Fin 1024) : Fin 8192 := ⟨w0 i + j.val, by have := i2_lt i; have := j.isLt; have := w0_eq i; omega⟩

theorem wk_val (j : Fin 1024) : (wk i j).val = w0 i + j.val := rfl

theorem wmld_apply (j : Fin 1024) (r : Fin 512) : wmld X.wm (k0_off13 i) (k0_off13_inb i) (ix3 0 j r)
    = X.wm (ix3 ⟨min (i 2).val 1, by omega⟩ j r) := by
  have h := off13 i
  show X.wm _ = _
  refine congrArg _ (funext fun a => Fin.ext ?_)
  match a with
  | ⟨0, _⟩ => show k0_off13 i (0 : Fin 3) + 1 * 0 = min (i 2).val 1; omega
  | ⟨1, _⟩ => show 0 + 1 * j.val = j.val; omega
  | ⟨2, _⟩ => show 0 + 1 * r.val = r.val; omega

theorem kwld_apply (j : Fin 1024) (d : Fin 64) : kwld X.kw (k0_off14 i) (k0_off14_inb i) (ix4 0 0 j d)
    = X.kw (ix4 0 0 (wk i j) d) := by
  have h := off14 i
  show X.kw _ = _
  refine congrArg _ (funext fun a => Fin.ext ?_)
  match a with
  | ⟨0, _⟩ => rfl
  | ⟨1, _⟩ => rfl
  | ⟨2, _⟩ => show k0_off14 i (2 : Fin 4) + 1 * j.val = w0 i + j.val; omega
  | ⟨3, _⟩ => show 0 + 1 * d.val = d.val; omega

/-- One value of all the window's values. -/
abbrev vwAt (e : Fin 64) (k : Fin 8192) : EReal := X.vw (ix5 0 0 ⟨k.val / 128, by omega⟩ e ⟨k.val % 128, by omega⟩)

theorem vld_apply (k : Fin 8) (h) (e : Fin 64) (x : Fin 128) (j : Fin 1024) (hj : j.val = 128 * k.val + x.val) :
    vld X.vw (k0_off15 i (BitVec.ofNat 32 k.val)) h (ix5 0 0 0 e x) = vwAt X e (wk i j) := by
  have ho := off15 i k
  have hw := w0_eq i
  have hx := x.isLt
  show X.vw _ = _
  refine congrArg _ (funext fun a => Fin.ext ?_)
  match a with
  | ⟨0, _⟩ => rfl
  | ⟨1, _⟩ => rfl
  | ⟨2, _⟩ => show k0_off15 i (BitVec.ofNat 32 k.val) (2 : Fin 5) + 1 * 0 = (w0 i + j.val) / 128; omega
  | ⟨3, _⟩ => show 0 + 1 * e.val = e.val; omega
  | ⟨4, _⟩ => show 0 + 1 * x.val = (w0 i + j.val) % 128; omega

/-! ## The window's exponentials and values -/

theorem pay70_apply (k : Vec Ideal S1x1x1024x64 .bf16) (w : Vec Ideal S1x1024x512 .f32) (j : Fin 1024) (c : Fin 2048) :
    k0_pay70 (qcat X) w k (ix2 j c) = Ideal.exp2 ((∑ d, k (ix4 0 0 j d) * qcat X (ix2 d c) + w (ix3 0 j (qr c)))
      - Finset.univ.fold max ⊥ (fun n : Fin 1024 => ∑ d, k (ix4 0 0 n d) * qcat X (ix2 d c) + w (ix3 0 n (qr c)))) := by
  have hl : ∀ n : Fin 1024, (if h : c.val < 512 then w (ix3 0 n ⟨c.val, h⟩)
      else if h : c.val - 512 < 512 then w (ix3 0 n ⟨c.val - 512, h⟩)
      else if h : c.val - 512 - 512 < 512 then w (ix3 0 n ⟨c.val - 512 - 512, h⟩)
      else w (ix3 0 n ⟨c.val - 512 - 512 - 512, by have := c.isLt; omega⟩)) = w (ix3 0 n (qr c)) := fun n => by
    have hc := c.isLt
    split
    · exact congrArg (fun y => w (ix3 0 n y)) (Fin.ext (by show c.val = c.val % 512; omega))
    split
    · exact congrArg (fun y => w (ix3 0 n y)) (Fin.ext (by show c.val - 512 = c.val % 512; omega))
    split
    · exact congrArg (fun y => w (ix3 0 n y)) (Fin.ext (by show c.val - 512 - 512 = c.val % 512; omega))
    · exact congrArg (fun y => w (ix3 0 n y)) (Fin.ext (by show c.val - 512 - 512 - 512 = c.val % 512; omega))
  pointwise [k0_pay70]
  rw [bits_ninf]
  simp only [hl]
  rfl

theorem pwin_apply (j : Fin 1024) (c : Fin 2048) (s : Fin 1024 → EReal)
    (hs : ∀ n, ∑ d, X.kw (ix4 0 0 (wk i n) d) * X.q (ix4 0 (hd c) d (qr c)) + X.wm (ix3 ⟨min (i 2).val 1, by omega⟩ n (qr c)) = s n) :
    pwin i X (ix2 j c) = Ideal.exp2 (s j - Finset.univ.fold max ⊥ s) := by
  unfold pwin
  rw [pay70_apply]
  simp only [kwld_apply, wmld_apply, qcat_apply, hs]

set_option maxRecDepth 4096 in
theorem pay78_apply (p : FVec Ideal S1024x2048 .bf16) (a0 a1 a2 a3 a4 a5 a6 : FVec Ideal S64x128 .bf16)
    (a7 : Vec Ideal S1x1x1x64x128 .bf16) (v : Fin 1024 → EReal) (e : Fin 64) (c : Fin 2048)
    (h0 : ∀ (x : Fin 128) (j : Fin 1024), j.val = 128 * 0 + x.val → a0 (ix2 e x) = v j)
    (h1 : ∀ (x : Fin 128) (j : Fin 1024), j.val = 128 * 1 + x.val → a1 (ix2 e x) = v j)
    (h2 : ∀ (x : Fin 128) (j : Fin 1024), j.val = 128 * 2 + x.val → a2 (ix2 e x) = v j)
    (h3 : ∀ (x : Fin 128) (j : Fin 1024), j.val = 128 * 3 + x.val → a3 (ix2 e x) = v j)
    (h4 : ∀ (x : Fin 128) (j : Fin 1024), j.val = 128 * 4 + x.val → a4 (ix2 e x) = v j)
    (h5 : ∀ (x : Fin 128) (j : Fin 1024), j.val = 128 * 5 + x.val → a5 (ix2 e x) = v j)
    (h6 : ∀ (x : Fin 128) (j : Fin 1024), j.val = 128 * 6 + x.val → a6 (ix2 e x) = v j)
    (h7 : ∀ (x : Fin 128) (j : Fin 1024), j.val = 128 * 7 + x.val → a7 (ix5 0 0 0 e x) = v j) :
    k0_pay78 p a0 a1 a2 a3 a4 a5 a6 a7 (ix2 e c) = Ideal.div (∑ j, v j * p (ix2 j c)) (∑ j, p (ix2 j c)) := by
  pointwise [k0_pay78]
  refine congrArg (fun y => Ideal.div y _) (Finset.sum_congr rfl fun j _ => congrArg (· * p (ix2 j c)) ?_)
  split
  · exact h0 _ _ (by show j.val = 128 * 0 + j.val; omega)
  split
  · exact h1 _ _ (by show j.val = 128 * 1 + (j.val - 128); omega)
  split
  · exact h2 _ _ (by show j.val = 128 * 2 + (j.val - 128 - 128); omega)
  split
  · exact h3 _ _ (by show j.val = 128 * 3 + (j.val - 128 - 128 - 128); omega)
  split
  · exact h4 _ _ (by show j.val = 128 * 4 + (j.val - 128 - 128 - 128 - 128); omega)
  split
  · exact h5 _ _ (by show j.val = 128 * 5 + (j.val - 128 - 128 - 128 - 128 - 128); omega)
  split
  · exact h6 _ _ (by show j.val = 128 * 6 + (j.val - 128 - 128 - 128 - 128 - 128 - 128); omega)
  · exact h7 _ _ (by show j.val = 128 * 7 + (j.val - 128 - 128 - 128 - 128 - 128 - 128 - 128); omega)

theorem owin_apply (e : Fin 64) (c : Fin 2048) : owin i X (ix2 e c)
    = Ideal.div (∑ j, vwAt X e (wk i j) * pwin i X (ix2 j c)) (∑ j, pwin i X (ix2 j c)) := by
  unfold owin
  refine pay78_apply _ _ _ _ _ _ _ _ _ (fun j => vwAt X e (wk i j)) e c ?_ ?_ ?_ ?_ ?_ ?_ ?_ ?_ <;> intro x j hj
  · unfold vw0; pointwise [k0_pay71]; exact vld_apply i X 0 _ e x j hj
  · unfold vw1; pointwise [k0_pay72]; exact vld_apply i X 1 _ e x j hj
  · unfold vw2; pointwise [k0_pay73]; exact vld_apply i X 2 _ e x j hj
  · unfold vw3; pointwise [k0_pay74]; exact vld_apply i X 3 _ e x j hj
  · unfold vw4; pointwise [k0_pay75]; exact vld_apply i X 4 _ e x j hj
  · unfold vw5; pointwise [k0_pay76]; exact vld_apply i X 5 _ e x j hj
  · unfold vw6; pointwise [k0_pay77]; exact vld_apply i X 6 _ e x j hj
  · exact vld_apply i X 7 _ e x j hj

/-! ## The branch as the reference has it -/

/-- The position of a column's query. -/
abbrev pos (c : Fin 2048) : Nat := 512 * (i 2).val + c.val % 512
/-- Key `k` is in the window of column `c`. -/
abbrev visW (c : Fin 2048) (k : Fin 8192) : Prop := k.val ≤ pos i c ∧ pos i c ≤ k.val + 512

/-- A sum over all the keys that vanishes off the window is a sum over the window. -/
theorem sum_window {M : Type} [AddCommMonoid M] (f : Fin 8192 → M) (h : ∀ k : Fin 8192, (∀ j, wk i j ≠ k) → f k = 0) :
    ∑ k, f k = ∑ j, f (wk i j) := by
  classical
  have hinj : Function.Injective (wk i) := fun j j' e => by
    have h := congrArg Fin.val e
    rw [wk_val, wk_val] at h
    exact Fin.ext (by omega)
  rw [← Finset.sum_image (s := Finset.univ) (g := wk i) (f := f) (fun a _ b _ e => hinj e)]
  refine (Finset.sum_subset (Finset.subset_univ _) fun k _ hk => h k fun j e => hk ?_).symm
  exact Finset.mem_image.2 ⟨j, Finset.mem_univ _, e⟩

/-- A visible key is one of the window's. -/
theorem visW_wk (c : Fin 2048) (k : Fin 8192) (h : visW i c k) : ∃ j, wk i j = k := by
  have hi := i2_lt i
  have hw := w0_eq i
  have h1 : k.val ≤ 512 * (i 2).val + c.val % 512 := h.1
  have h2 : 512 * (i 2).val + c.val % 512 ≤ k.val + 512 := h.2
  refine ⟨⟨k.val - w0 i, by omega⟩, Fin.ext ?_⟩
  show w0 i + (k.val - w0 i) = k.val
  omega

theorem owin_real (b : Fin 64 → ℝ) (a : Fin 8192 → Fin 64 → ℝ) (c : Fin 2048)
    (hb : ∀ d, X.q (ix4 0 (hd c) d (qr c)) = (b d : EReal) * (lam : EReal))
    (ha : ∀ n d, X.kw (ix4 0 0 n d) = (a n d : EReal))
    (hw : ∀ j, X.wm (ix3 ⟨min (i 2).val 1, by omega⟩ j (qr c)) = if visW i c (wk i j) then 0 else ⊥) (e : Fin 64) :
    owin i X (ix2 e c) = ∑ k, vwAt X e k * Ideal.div (refExp (visW i c) (raw b a) k)
      (max (∑ k, refExp (visW i c) (raw b a) k) (Ideal.ofBits FTy.f32 228737632#32)) := by
  have h2 := i2_lt i
  obtain ⟨n0, hv0, hn0⟩ : ∃ n0, visW i c n0 ∧ ∀ n, visW i c n → raw b a n ≤ raw b a n0 := by
    rcases greatest (visW i c) (raw b a) with h | h
    · exact h
    · exact absurd (⟨le_rfl, Nat.le_add_right _ _⟩ : visW i c ⟨pos i c, by show 512 * (i 2).val + c.val % 512 < 8192; omega⟩) (h _)
  obtain ⟨j0, hj0⟩ := visW_wk i c n0 hv0
  have hs : ∀ n, ∑ d, X.kw (ix4 0 0 (wk i n) d) * X.q (ix4 0 (hd c) d (qr c))
      + X.wm (ix3 ⟨min (i 2).val 1, by omega⟩ n (qr c)) = msk (fun j => visW i c (wk i j)) (fun j => raw b a (wk i j)) lam n := fun n => by
    simp only [ha, hb, hw, scaled_sum, msk]
    split
    · rw [add_zero]
    · rw [EReal.add_bot]
  have hp : ∀ j, pwin i X (ix2 j c) = (wt (visW i c) (raw b a) (raw b a n0) (wk i j) : EReal) := fun j => by
    rw [pwin_apply i X j c _ hs, fold_max_msk (fun j => visW i c (wk i j)) (fun j => raw b a (wk i j)) lam_pos.le
      (n0 := j0) (by rw [hj0]; exact hv0) (fun n hn => by rw [hj0]; exact hn0 _ hn), exp2_msk, hj0]
    rfl
  have he : ∀ k, refExp (visW i c) (raw b a) k = (wt (visW i c) (raw b a) (raw b a n0) k : EReal) := refExp_eq _ _ hv0 hn0
  have hz : ∀ k : Fin 8192, (∀ j, wk i j ≠ k) → wt (visW i c) (raw b a) (raw b a n0) k = 0 := fun k hk =>
    if_neg fun hv => (visW_wk i c k hv).elim fun j hj => hk j hj
  have hpos : ∀ k, 0 ≤ wt (visW i c) (raw b a) (raw b a n0) k := fun k => by
    unfold wt; split
    · exact (Real.exp_pos _).le
    · exact le_rfl
  have hone : wt (visW i c) (raw b a) (raw b a n0) n0 = 1 := by
    unfold wt; rw [if_pos hv0, sub_self, zero_mul, Real.exp_zero]
  generalize hW : wt (visW i c) (raw b a) (raw b a n0) = W at *
  have hL : 1 ≤ ∑ k, W k := hone ▸ Finset.single_le_sum (fun k _ => hpos k) (Finset.mem_univ n0)
  obtain ⟨ε, hε, -, hε1⟩ := bits_tiny
  have hmax : max ((∑ k, W k : ℝ) : EReal) (Ideal.ofBits FTy.f32 228737632#32) = ((∑ k, W k : ℝ) : EReal) := by
    rw [hε]; exact max_eq_left (by exact_mod_cast hε1.trans hL)
  have hsum : ∑ j, ((W (wk i j) : ℝ) : EReal) = ((∑ k, W k : ℝ) : EReal) := by
    rw [← coe_sum, sum_window i W hz]
  have hinv : 0 ≤ (∑ k, W k)⁻¹ := inv_nonneg.2 (by linarith)
  rw [owin_apply]
  simp only [hp, he]
  rw [hsum, ← coe_sum Finset.univ W, hmax, div_real _ (by linarith),
    ← sum_window i (fun k => vwAt X e k * ((W k : ℝ) : EReal)) (fun k hk => by rw [hz k hk]; simp),
    sum_mul_real _ _ hinv]
  refine Finset.sum_congr rfl fun k _ => ?_
  rw [div_real _ (by linarith), mul_assoc]

/-! ## The block of results -/

theorem owin_def : k0_pay78 (pwin i X) (vw0 i X) (vw1 i X) (vw2 i X) (vw3 i X) (vw4 i X) (vw5 i X) (vw6 i X) (vwLast i X) = owin i X := rfl

/-- A column from its head and its query. -/
abbrev col (g : Fin 4) (r : Fin 512) : Fin 2048 := ⟨512 * g.val + r.val, by omega⟩

theorem blockOut_apply (r : Fin 512) (d : Fin 256) (g : Fin 4) (e : Fin 64) (hg : d.val = 64 * g.val + e.val)
    (G0 G1 G2 : EReal) (h0 : X.gt (ix4 0 0 ⟨3 * g.val, by omega⟩ r) = G0)
    (h1 : X.gt (ix4 0 0 ⟨3 * g.val + 1, by omega⟩ r) = G1) (h2 : X.gt (ix4 0 0 ⟨3 * g.val + 2, by omega⟩ r) = G2) :
    blockOut i X (ix3 0 r d) = Ideal.logistic G0 * ocmp i X (ix2 e (col g r)) + Ideal.logistic G1 * osel i X (ix2 e (col g r))
      + Ideal.logistic G2 * owin i X (ix2 e (col g r)) := by
  have he := e.isLt
  subst h0 h1 h2
  unfold blockOut
  pointwise [k0_pay1, k0_pay80, k0_pay81, k0_pay82, k0_pay83, k0_pay79]
  rw [owin_def]
  simp only [gtld_apply]
  match g, hg with
  | ⟨0, _⟩, hg =>
    replace hg : d.val = 64 * 0 + e.val := hg
    rw [dif_pos (by omega)]
    have e1 : (⟨d.val, by omega⟩ : Fin 64) = e := Fin.ext (by show d.val = e.val; omega)
    have e2 : (⟨r.val, by omega⟩ : Fin 2048) = col ⟨0, by omega⟩ r := Fin.ext (by show r.val = 512 * 0 + r.val; omega)
    rw [e1, e2]; rfl
  | ⟨1, _⟩, hg =>
    replace hg : d.val = 64 * 1 + e.val := hg
    rw [dif_neg (by omega), dif_pos (by omega)]
    have e1 : (⟨d.val - 64, by omega⟩ : Fin 64) = e := Fin.ext (by show d.val - 64 = e.val; omega)
    have e2 : (⟨512 + r.val, by omega⟩ : Fin 2048) = col ⟨1, by omega⟩ r := Fin.ext (by show 512 + r.val = 512 * 1 + r.val; omega)
    rw [e1, e2]; rfl
  | ⟨2, _⟩, hg =>
    replace hg : d.val = 64 * 2 + e.val := hg
    rw [dif_neg (by omega), dif_neg (by omega), dif_pos (by omega)]
    have e1 : (⟨d.val - 64 - 64, by omega⟩ : Fin 64) = e := Fin.ext (by show d.val - 64 - 64 = e.val; omega)
    have e2 : (⟨1024 + r.val, by omega⟩ : Fin 2048) = col ⟨2, by omega⟩ r := Fin.ext (by show 1024 + r.val = 512 * 2 + r.val; omega)
    rw [e1, e2]; rfl
  | ⟨3, _⟩, hg =>
    replace hg : d.val = 64 * 3 + e.val := hg
    rw [dif_neg (by omega), dif_neg (by omega), dif_neg (by omega)]
    have e1 : (⟨d.val - 64 - 64 - 64, by omega⟩ : Fin 64) = e := Fin.ext (by show d.val - 64 - 64 - 64 = e.val; omega)
    have e2 : (⟨1536 + r.val, by omega⟩ : Fin 2048) = col ⟨3, by omega⟩ r := Fin.ext (by show 1536 + r.val = 512 * 3 + r.val; omega)
    rw [e1, e2]; rfl

end Cert.Proof.Nsa

end
-- ==== Proof.Nsa.Ref.lean ====
/-
  THE REFERENCE'S RESULT ARRAY, at the ideal instance: its composed term read at an index, piece by piece (the masks, the
  scores, the exponentials, the quotients), is the gated sum of the two branches as `Proof/Nsa/Soft` has them (`ref_apply`).
-/
module

public import proofs.«01_k».proof.Proof.Nsa.Block
public import proofs.«01_k».proof.Proof.Gen.ReferenceIdeal.Run
public import Idealize.ShloMosaic.Lib.Routing.Words

@[expose] public section

set_option maxRecDepth 2048

noncomputable section

namespace Cert.Proof.Nsa.Ref

open Idealize.ShloMosaic Idealize.ShloMosaic.TcCoe Idealize.SL.Sem Cert.ReferenceIdeal Cert.ReferenceIdeal.Gen
open Cert.ReferenceIdeal.Facts

/-- A difference of words that does not leave the signed range. -/
theorem toInt_subi {x y : BitVec 32} {a b : Int} (hx : x.toInt = a) (hy : y.toInt = b) (h1 : -2147483648 ≤ a - b)
    (h2 : a - b < 2147483648) : (IntOp.subi x y).toInt = a - b := by
  show (x - y).toInt = _
  rw [BitVec.toInt_sub, hx, hy]
  exact Int.bmod_eq_of_le (by omega) (by omega)

/-! ## The pieces -/

/-- The compressed branch's mask. -/
def mC : IVec S2x8192x4x4x512 1 :=
  broadcastInDim S2x8192x4x4x512 ![0, 1, 2, 3, 4] bcast_S1x8192x1x1x512_S2x8192x4x4x512_0_1_2_3_4 (broadcastInDim S1x8192x1x1x512 ![1, 4] bcast_S8192x512_S1x8192x1x1x512_1_4 (cmpi .sle (broadcastInDim S8192x512 ![0, 1] bcast_S1x512_S8192x512_0_1 (broadcastInDim S1x512 ![1] bcast_S512_S1x512_1 (addi (muli (iotaInDim S512 32 0) (broadcastInDim S512 ![] bcast_S_S512 (constantI S_ 32 16#32))) (broadcastInDim S512 ![] bcast_S_S512 (constantI S_ 32 31#32))))) (broadcastInDim S8192x512 ![0, 1] bcast_S8192x1_S8192x512_0_1 (broadcastInDim S8192x1 ![0] bcast_S8192_S8192x1_0 (iotaInDim S8192 32 0)))))

/-- The scaled scores, -/
def sC (q : FVec Ideal S2x8192x4x4x64 .f32) (k : FVec Ideal S2x512x4x64 .f32) : FVec Ideal S2x8192x4x4x512 .f32 :=
  mulf (transpose S2x8192x4x4x512 [0, 3, 1, 4, 2] (Host.dotGeneral dot_S2x512x4x64_S2x8192x4x4x64_S2x4x512x8192x4_3_4_1_13_02_02 none k q) transposes_S2x4x512x8192x4_S2x8192x4x4x512_0_3_1_4_2) (broadcastInDim S2x8192x4x4x512 ![] bcast_S_S2x8192x4x4x512 (constant S_ .f32 0x3E000000#32))
/-- masked, -/
def xC (mk : IVec S2x8192x4x4x512 1) (s : FVec Ideal S2x8192x4x4x512 .f32) : FVec Ideal S2x8192x4x4x512 .f32 :=
  select mk s (broadcastInDim S2x8192x4x4x512 ![] bcast_S_S2x8192x4x4x512 (id (constant S_ .f32 0xFF800000#32)))
/-- their maximum, -/
def fC (x : FVec Ideal S2x8192x4x4x512 .f32) : FVec Ideal S2x8192x4x4x1 .f32 :=
  broadcastInDim S2x8192x4x4x1 ![0, 1, 2, 3] bcast_S2x8192x4x4_S2x8192x4x4x1_0_1_2_3 (Host.reduce FloatOps.maximumf x (constant S_ .f32 0xFF800000#32) reducesTo_S2x8192x4x4x512_S2x8192x4x4_d4 h_S_)
/-- their exponentials, -/
def eC (mk : IVec S2x8192x4x4x512 1) (x : FVec Ideal S2x8192x4x4x512 .f32) (f : FVec Ideal S2x8192x4x4x1 .f32) : FVec Ideal S2x8192x4x4x512 .f32 :=
  select mk (Host.exp (subf x (broadcastInDim S2x8192x4x4x512 ![0, 1, 2, 3, 4] bcast_S2x8192x4x4x1_S2x8192x4x4x512_0_1_2_3_4 (select (cmpf .olt (Host.absf f) (broadcastInDim S2x8192x4x4x1 ![] bcast_S_S2x8192x4x4x1 (constant S_ .f32 0x7F800000#32))) f (broadcastInDim S2x8192x4x4x1 ![] bcast_S_S2x8192x4x4x1 (id (constant S_ .f32 0x00000000#32))))))) (broadcastInDim S2x8192x4x4x512 ![] bcast_S_S2x8192x4x4x512 (id (constant S_ .f32 0x00000000#32)))
/-- and the branch. -/
def oC (e : FVec Ideal S2x8192x4x4x512 .f32) (v : FVec Ideal S2x512x4x64 .f32) : FVec Ideal S2x8192x4x4x64 .f32 :=
  transpose S2x8192x4x4x64 [0, 3, 1, 4, 2] (Host.dotGeneral dot_S2x512x4x64_S2x8192x4x4x512_S2x4x64x8192x4_1_4_3_13_02_02 none v (Host.divf e (broadcastInDim S2x8192x4x4x512 ![0, 1, 2, 3, 4] bcast_S2x8192x4x4x1_S2x8192x4x4x512_0_1_2_3_4 (maximumf (broadcastInDim S2x8192x4x4x1 ![0, 1, 2, 3] bcast_S2x8192x4x4_S2x8192x4x4x1_0_1_2_3 (Host.reduceAdd e (constant S_ .f32 0x00000000#32) reducesTo_S2x8192x4x4x512_S2x8192x4x4_d4 h_S_)) (broadcastInDim S2x8192x4x4x1 ![] bcast_S_S2x8192x4x4x1 (constant S_ .f32 0x0DA24260#32)))))) transposes_S2x4x64x8192x4_S2x8192x4x4x64_0_3_1_4_2

/-- The keys' positions, along the keys' axis. -/
def kpos : IVec S8192x8192 32 := broadcastInDim S8192x8192 ![0, 1] bcast_S1x8192_S8192x8192_0_1 (broadcastInDim S1x8192 ![1] bcast_S8192_S1x8192_1 (iotaInDim S8192 32 0))
/-- The window branch's mask. -/
def mW : IVec S2x8192x4x4x8192 1 :=
  broadcastInDim S2x8192x4x4x8192 ![0, 1, 2, 3, 4] bcast_S1x8192x1x1x8192_S2x8192x4x4x8192_0_1_2_3_4 (broadcastInDim S1x8192x1x1x8192 ![1, 4] bcast_S8192x8192_S1x8192x1x1x8192_1_4 (andi (cmpi .sle kpos (broadcastInDim S8192x8192 ![0, 1] bcast_S8192x1_S8192x8192_0_1 (broadcastInDim S8192x1 ![0] bcast_S8192_S8192x1_0 (iotaInDim S8192 32 0)))) (cmpi .sge kpos (broadcastInDim S8192x8192 ![0, 1] bcast_S8192x1_S8192x8192_0_1 (subi (broadcastInDim S8192x1 ![0] bcast_S8192_S8192x1_0 (iotaInDim S8192 32 0)) (broadcastInDim S8192x1 ![] bcast_S_S8192x1 (constantI S_ 32 512#32)))))))

/-- The scaled scores, -/
def sW (q : FVec Ideal S2x8192x4x4x64 .f32) (k : FVec Ideal S2x8192x4x64 .f32) : FVec Ideal S2x8192x4x4x8192 .f32 :=
  mulf (transpose S2x8192x4x4x8192 [0, 3, 1, 4, 2] (Host.dotGeneral dot_S2x8192x4x64_S2x8192x4x4x64_S2x4x8192x8192x4_3_4_1_13_02_02 none k q) transposes_S2x4x8192x8192x4_S2x8192x4x4x8192_0_3_1_4_2) (broadcastInDim S2x8192x4x4x8192 ![] bcast_S_S2x8192x4x4x8192 (constant S_ .f32 0x3E000000#32))
/-- masked, -/
def xW (mk : IVec S2x8192x4x4x8192 1) (s : FVec Ideal S2x8192x4x4x8192 .f32) : FVec Ideal S2x8192x4x4x8192 .f32 :=
  select mk s (broadcastInDim S2x8192x4x4x8192 ![] bcast_S_S2x8192x4x4x8192 (id (constant S_ .f32 0xFF800000#32)))
/-- their maximum, -/
def fW (x : FVec Ideal S2x8192x4x4x8192 .f32) : FVec Ideal S2x8192x4x4x1 .f32 :=
  broadcastInDim S2x8192x4x4x1 ![0, 1, 2, 3] bcast_S2x8192x4x4_S2x8192x4x4x1_0_1_2_3 (Host.reduce FloatOps.maximumf x (constant S_ .f32 0xFF800000#32) reducesTo_S2x8192x4x4x8192_S2x8192x4x4_d4 h_S_)
/-- their exponentials, -/
def eW (mk : IVec S2x8192x4x4x8192 1) (x : FVec Ideal S2x8192x4x4x8192 .f32) (f : FVec Ideal S2x8192x4x4x1 .f32) : FVec Ideal S2x8192x4x4x8192 .f32 :=
  select mk (Host.exp (subf x (broadcastInDim S2x8192x4x4x8192 ![0, 1, 2, 3, 4] bcast_S2x8192x4x4x1_S2x8192x4x4x8192_0_1_2_3_4 (select (cmpf .olt (Host.absf f) (broadcastInDim S2x8192x4x4x1 ![] bcast_S_S2x8192x4x4x1 (constant S_ .f32 0x7F800000#32))) f (broadcastInDim S2x8192x4x4x1 ![] bcast_S_S2x8192x4x4x1 (id (constant S_ .f32 0x00000000#32))))))) (broadcastInDim S2x8192x4x4x8192 ![] bcast_S_S2x8192x4x4x8192 (id (constant S_ .f32 0x00000000#32)))
/-- and the branch. -/
def oW (e : FVec Ideal S2x8192x4x4x8192 .f32) (v : FVec Ideal S2x8192x4x64 .f32) : FVec Ideal S2x8192x4x4x64 .f32 :=
  transpose S2x8192x4x4x64 [0, 3, 1, 4, 2] (Host.dotGeneral dot_S2x8192x4x64_S2x8192x4x4x8192_S2x4x64x8192x4_1_4_3_13_02_02 none v (Host.divf e (broadcastInDim S2x8192x4x4x8192 ![0, 1, 2, 3, 4] bcast_S2x8192x4x4x1_S2x8192x4x4x8192_0_1_2_3_4 (maximumf (broadcastInDim S2x8192x4x4x1 ![0, 1, 2, 3] bcast_S2x8192x4x4_S2x8192x4x4x1_0_1_2_3 (Host.reduceAdd e (constant S_ .f32 0x00000000#32) reducesTo_S2x8192x4x4x8192_S2x8192x4x4_d4 h_S_)) (broadcastInDim S2x8192x4x4x1 ![] bcast_S_S2x8192x4x4x1 (constant S_ .f32 0x0DA24260#32)))))) transposes_S2x4x64x8192x4_S2x8192x4x4x64_0_3_1_4_2

/-- The gates. -/
def gate (x : FVec Ideal S2x8192x4x4x3 .f32) : FVec Ideal S2x8192x4x4x3 .f32 :=
  Host.divf (broadcastInDim S2x8192x4x4x3 ![] bcast_S_S2x8192x4x4x3 (constant S_ .f32 0x3F800000#32)) (addf (broadcastInDim S2x8192x4x4x3 ![] bcast_S_S2x8192x4x4x3 (constant S_ .f32 0x3F800000#32)) (Host.exp (Host.negf x)))
/-- The result from the gates and the branches. -/
def res (g : FVec Ideal S2x8192x4x4x3 .f32) (a w : FVec Ideal S2x8192x4x4x64 .f32) : FVec Ideal S2x8192x1024 .bf16 :=
  truncf .bf16 (shapeCast _ (addf (mulf (broadcastInDim S2x8192x4x4x64 ![0, 1, 2, 3, 4] bcast_S2x8192x4x4x1_S2x8192x4x4x64_0_1_2_3_4 (extractStridedSlice S2x8192x4x4x1 ![0, 0, 0, 0, 0] g slices_S2x8192x4x4x3_S2x8192x4x4x1_0_0_0_0_0)) a) (mulf (broadcastInDim S2x8192x4x4x64 ![0, 1, 2, 3, 4] bcast_S2x8192x4x4x1_S2x8192x4x4x64_0_1_2_3_4 (extractStridedSlice S2x8192x4x4x1 ![0, 0, 0, 0, 2] g slices_S2x8192x4x4x3_S2x8192x4x4x1_0_0_0_0_2)) w)) shapeCasts_S2x8192x4x4x64_S2x8192x1024) bitsLt_bf16_f32

variable (m : (ℓ : Loc nD τ sig) → Buf (Elt Ideal) ℓ) (c : Dev nD)

theorem res_eq : Cert.ReferenceIdeal.Value.res_main_v86 m c
    = res (gate (m ((c.tc : Thread nD τ).loc main_arg7)))
      (oC (eC mC (xC mC (sC (m ((c.tc : Thread nD τ).loc main_arg0)) (m ((c.tc : Thread nD τ).loc main_arg1))))
        (fC (xC mC (sC (m ((c.tc : Thread nD τ).loc main_arg0)) (m ((c.tc : Thread nD τ).loc main_arg1))))))
        (m ((c.tc : Thread nD τ).loc main_arg2)))
      (oW (eW mW (xW mW (sW (m ((c.tc : Thread nD τ).loc main_arg0)) (m ((c.tc : Thread nD τ).loc main_arg5))))
        (fW (xW mW (sW (m ((c.tc : Thread nD τ).loc main_arg0)) (m ((c.tc : Thread nD τ).loc main_arg5))))))
        (m ((c.tc : Thread nD τ).loc main_arg6))) := by
  unfold Cert.ReferenceIdeal.Value.res_main_v86 res gate oC eC xC fC sC mC oW eW xW fW sW mW kpos
  rfl

/-! ## Each at an index -/

theorem res_apply (g : FVec Ideal S2x8192x4x4x3 .f32) (a w : FVec Ideal S2x8192x4x4x64 .f32) (b : Fin 2) (T : Fin 8192) (D : Fin 1024)
    (h g' : Fin 4) (e : Fin 64) (hD : D.val = 256 * h.val + 64 * g'.val + e.val) :
    res g a w (ix3 b T D) = g (ix5 b T h g' 0) * a (ix5 b T h g' e) + g (ix5 b T h g' 2) * w (ix5 b T h g' e) := by
  have he := e.isLt
  have hg := g'.isLt
  have e1 : (⟨D.val / 256, by omega⟩ : Fin 4) = h := Fin.ext (by show D.val / 256 = h.val; omega)
  have e2 : (⟨D.val / 64 % 4, by omega⟩ : Fin 4) = g' := Fin.ext (by show D.val / 64 % 4 = g'.val; omega)
  have e3 : (⟨D.val % 64, by omega⟩ : Fin 64) = e := Fin.ext (by show D.val % 64 = e.val; omega)
  pointwise [res]
  rw [e1, e2, e3]

theorem gate_apply (x : FVec Ideal S2x8192x4x4x3 .f32) (b : Fin 2) (T : Fin 8192) (h g : Fin 4) (k : Fin 3) :
    gate x (ix5 b T h g k) = Ideal.logistic (x (ix5 b T h g k)) := by
  pointwise [gate]
  rfl

theorem mC_apply (b : Fin 2) (T : Fin 8192) (h g : Fin 4) (n : Fin 512) :
    mC (ix5 b T h g n) = 1#1 ↔ 16 * n.val + 31 ≤ T.val := by
  have hn := n.isLt
  have hT := T.isLt
  pointwise [mC]
  have e1 : IntOp.addi (IntOp.muli (BitVec.ofNat 32 n.val) 16#32) 31#32 = BitVec.ofNat 32 (16 * n.val + 31) := by
    apply BitVec.eq_of_toNat_eq
    simp [IntOp.addi, IntOp.muli]
    omega
  rw [e1, IntOp.cmpi_sle, StableHlo.Predicate.toInt_ofNat_small _ (by omega), StableHlo.Predicate.toInt_ofNat_small _ (by omega)]
  omega

theorem mW_apply (b : Fin 2) (T : Fin 8192) (h g : Fin 4) (n : Fin 8192) :
    mW (ix5 b T h g n) = 1#1 ↔ n.val ≤ T.val ∧ T.val ≤ n.val + 512 := by
  have hn := n.isLt
  have hT := T.isLt
  pointwise [mW, kpos]
  rw [IntOp.andi_eq_one, IntOp.cmpi_sle, IntOp.cmpi_sge, toInt_subi (StableHlo.Predicate.toInt_ofNat_small _ (by omega))
    (StableHlo.Predicate.toInt_ofNat_small 512 (by omega)) (by omega) (by omega),
    StableHlo.Predicate.toInt_ofNat_small _ (by omega), StableHlo.Predicate.toInt_ofNat_small _ (by omega)]
  omega

theorem sC_apply (q : FVec Ideal S2x8192x4x4x64 .f32) (k : FVec Ideal S2x512x4x64 .f32) (b : Fin 2) (T : Fin 8192) (h g : Fin 4) (n : Fin 512) :
    sC q k (ix5 b T h g n) = (∑ d, k (ix4 b n h d) * q (ix5 b T h g d)) * ((1 / 8 : ℝ) : EReal) := by
  pointwise [sC]
  rw [bits_eighth]

theorem xC_apply (mk : IVec S2x8192x4x4x512 1) (s : FVec Ideal S2x8192x4x4x512 .f32) (j : S2x8192x4x4x512.Idx) :
    xC mk s j = Scalar.select (mk j) (s j) ⊥ := by
  pointwise [xC]
  exact congrArg _ bits_ninf

theorem fC_apply (x : FVec Ideal S2x8192x4x4x512 .f32) (b : Fin 2) (T : Fin 8192) (h g : Fin 4) (y : Fin 1) :
    fC x (ix5 b T h g y) = Finset.univ.fold max ⊥ fun n : Fin 512 => x (ix5 b T h g n) := by
  pointwise [fC]
  rw [bits_ninf]

theorem eC_apply (mk : IVec S2x8192x4x4x512 1) (x : FVec Ideal S2x8192x4x4x512 .f32) (f : FVec Ideal S2x8192x4x4x1 .f32) (b : Fin 2) (T : Fin 8192) (h g : Fin 4) (n : Fin 512) :
    eC mk x f (ix5 b T h g n) = Scalar.select (mk (ix5 b T h g n)) (Ideal.exp (x (ix5 b T h g n) -
      (if max (f (ix5 b T h g 0)) (-(f (ix5 b T h g 0))) < ⊤ then f (ix5 b T h g 0) else 0))) 0 := by
  pointwise [eC]
  have hz : id (constant (F := Ideal) S_ FTy.f32 0#32) ix0 = 0 := Ideal.ofBits_zero_f32
  rw [hz, bits_pinf]
  rfl

theorem oC_apply (e : FVec Ideal S2x8192x4x4x512 .f32) (v : FVec Ideal S2x512x4x64 .f32) (b : Fin 2) (T : Fin 8192) (h g : Fin 4) (d : Fin 64) :
    oC e v (ix5 b T h g d) = ∑ n, v (ix4 b n h d) * Ideal.div (e (ix5 b T h g n))
      (max (∑ n, e (ix5 b T h g n)) (Ideal.ofBits FTy.f32 228737632#32)) := by
  pointwise [oC]

/-- The branch of real queries and keys. -/
theorem branchC (q : FVec Ideal S2x8192x4x4x64 .f32) (k v : FVec Ideal S2x512x4x64 .f32) (b : Fin 2) (T : Fin 8192) (h g : Fin 4) (d : Fin 64)
    (x : Fin 64 → ℝ) (a : Fin 512 → Fin 64 → ℝ) (hx : ∀ d, q (ix5 b T h g d) = (x d : EReal)) (ha : ∀ n d, k (ix4 b n h d) = (a n d : EReal)) :
    oC (eC mC (xC mC (sC q k)) (fC (xC mC (sC q k)))) v (ix5 b T h g d)
      = ∑ n, v (ix4 b n h d) * Ideal.div (refExp (fun n : Fin 512 => 16 * n.val + 31 ≤ T.val) (raw x a) n)
          (max (∑ n, refExp (fun n : Fin 512 => 16 * n.val + 31 ≤ T.val) (raw x a) n) (Ideal.ofBits FTy.f32 228737632#32)) := by
  have hs : ∀ n, xC mC (sC q k) (ix5 b T h g n) = msk (fun n : Fin 512 => 16 * n.val + 31 ≤ T.val) (raw x a) (1 / 8) n := fun n => by
    rw [xC_apply, sC_apply, select_if (mC_apply b T h g n)]
    simp only [hx, ha, ← EReal.coe_mul]
    rw [← coe_sum, ← EReal.coe_mul]
    rfl
  have he : ∀ n, eC mC (xC mC (sC q k)) (fC (xC mC (sC q k))) (ix5 b T h g n) = refExp (fun n : Fin 512 => 16 * n.val + 31 ≤ T.val) (raw x a) n := fun n => by
    rw [eC_apply, fC_apply, select_if (mC_apply b T h g n)]
    simp only [hs]
    rfl
  rw [oC_apply]
  simp only [he]

theorem sW_apply (q : FVec Ideal S2x8192x4x4x64 .f32) (k : FVec Ideal S2x8192x4x64 .f32) (b : Fin 2) (T : Fin 8192) (h g : Fin 4) (n : Fin 8192) :
    sW q k (ix5 b T h g n) = (∑ d, k (ix4 b n h d) * q (ix5 b T h g d)) * ((1 / 8 : ℝ) : EReal) := by
  pointwise [sW]
  rw [bits_eighth]

theorem xW_apply (mk : IVec S2x8192x4x4x8192 1) (s : FVec Ideal S2x8192x4x4x8192 .f32) (j : S2x8192x4x4x8192.Idx) :
    xW mk s j = Scalar.select (mk j) (s j) ⊥ := by
  pointwise [xW]
  exact congrArg _ bits_ninf

theorem fW_apply (x : FVec Ideal S2x8192x4x4x8192 .f32) (b : Fin 2) (T : Fin 8192) (h g : Fin 4) (y : Fin 1) :
    fW x (ix5 b T h g y) = Finset.univ.fold max ⊥ fun n : Fin 8192 => x (ix5 b T h g n) := by
  pointwise [fW]
  rw [bits_ninf]

theorem eW_apply (mk : IVec S2x8192x4x4x8192 1) (x : FVec Ideal S2x8192x4x4x8192 .f32) (f : FVec Ideal S2x8192x4x4x1 .f32) (b : Fin 2) (T : Fin 8192) (h g : Fin 4) (n : Fin 8192) :
    eW mk x f (ix5 b T h g n) = Scalar.select (mk (ix5 b T h g n)) (Ideal.exp (x (ix5 b T h g n) -
      (if max (f (ix5 b T h g 0)) (-(f (ix5 b T h g 0))) < ⊤ then f (ix5 b T h g 0) else 0))) 0 := by
  pointwise [eW]
  have hz : id (constant (F := Ideal) S_ FTy.f32 0#32) ix0 = 0 := Ideal.ofBits_zero_f32
  rw [hz, bits_pinf]
  rfl

theorem oW_apply (e : FVec Ideal S2x8192x4x4x8192 .f32) (v : FVec Ideal S2x8192x4x64 .f32) (b : Fin 2) (T : Fin 8192) (h g : Fin 4) (d : Fin 64) :
    oW e v (ix5 b T h g d) = ∑ n, v (ix4 b n h d) * Ideal.div (e (ix5 b T h g n))
      (max (∑ n, e (ix5 b T h g n)) (Ideal.ofBits FTy.f32 228737632#32)) := by
  pointwise [oW]

/-- The branch of real queries and keys. -/
theorem branchW (q : FVec Ideal S2x8192x4x4x64 .f32) (k v : FVec Ideal S2x8192x4x64 .f32) (b : Fin 2) (T : Fin 8192) (h g : Fin 4) (d : Fin 64)
    (x : Fin 64 → ℝ) (a : Fin 8192 → Fin 64 → ℝ) (hx : ∀ d, q (ix5 b T h g d) = (x d : EReal)) (ha : ∀ n d, k (ix4 b n h d) = (a n d : EReal)) :
    oW (eW mW (xW mW (sW q k)) (fW (xW mW (sW q k)))) v (ix5 b T h g d)
      = ∑ n, v (ix4 b n h d) * Ideal.div (refExp (fun n : Fin 8192 => n.val ≤ T.val ∧ T.val ≤ n.val + 512) (raw x a) n)
          (max (∑ n, refExp (fun n : Fin 8192 => n.val ≤ T.val ∧ T.val ≤ n.val + 512) (raw x a) n) (Ideal.ofBits FTy.f32 228737632#32)) := by
  have hs : ∀ n, xW mW (sW q k) (ix5 b T h g n) = msk (fun n : Fin 8192 => n.val ≤ T.val ∧ T.val ≤ n.val + 512) (raw x a) (1 / 8) n := fun n => by
    rw [xW_apply, sW_apply, select_if (mW_apply b T h g n)]
    simp only [hx, ha, ← EReal.coe_mul]
    rw [← coe_sum, ← EReal.coe_mul]
    rfl
  have he : ∀ n, eW mW (xW mW (sW q k)) (fW (xW mW (sW q k))) (ix5 b T h g n) = refExp (fun n : Fin 8192 => n.val ≤ T.val ∧ T.val ≤ n.val + 512) (raw x a) n := fun n => by
    rw [eW_apply, fW_apply, select_if (mW_apply b T h g n)]
    simp only [hs]
    rfl
  rw [oW_apply]
  simp only [he]

end Cert.Proof.Nsa.Ref

end
-- ==== Proof.Nsa.Operands.lean ====
/-
  THE ATTENTION KERNEL'S OPERANDS, at the ideal instance: what the host prepares of each argument (`V_v…`), and what of it each
  window's block holds at a grid point, by the point's coordinates: the batch row, the head of keys, the tile of queries
  (`iblk…`); and where the point's block of results goes (`emb11`).
-/
module

public import proofs.«01_k».proof.Proof.Nsa.Window
public import proofs.«01_k».proof.Proof.Nsa.Ref
public import proofs.«01_k».proof.Proof.Ideal.Run
public import Idealize.ShloMosaic.Lib.Pipeline.ValueKit
public import Idealize.ShloMosaic.Lib.StableHlo.ReadAt

@[expose] public section

set_option maxRecDepth 4096

noncomputable section

namespace Cert.Proof.Nsa

open Idealize.ShloMosaic Idealize.ShloMosaic.TcCoe Idealize.SL.Sem Cert.KernelIdeal Cert.KernelIdeal.Gen Cert.Proof.Ideal

/-! ## What the host prepares -/

variable (m : (ℓ : Loc nD τ sig) → Buf (Elt Ideal) ℓ) (c : Dev nD)

theorem V_v9 (b : Fin 2) (h : Fin 4) (n : Fin 512) (d : Fin 64) :
    V m c main_v9 (ix4 b h n d) = m ((c : Thread nD τ).loc main_arg1) (ix4 b n h d) := by
  unfold V; after_reads_at

theorem V_v7 (b : Fin 2) (q : Fin 16) (d : Fin 64) (t : Fin 8192) :
    V m c main_v7 (ix4 b q d t) = (show EReal from m ((c : Thread nD τ).loc main_arg0) (ix5 b t ⟨q.val / 4, by omega⟩ ⟨q.val % 4, by omega⟩ d)) * (lam : EReal) := by
  unfold V; after_reads_at
  exact congrArg _ scale_eq

theorem V_v11 (b : Fin 2) (h : Fin 4) (n : Fin 512) (d : Fin 64) :
    V m c main_v11 (ix4 b h d n) = m ((c : Thread nD τ).loc main_arg2) (ix4 b n h d) := by
  unfold V; after_reads_at

theorem V_v35 (b : Fin 2) (h : Fin 4) (n : Fin 8192) (d : Fin 64) :
    V m c main_v35 (ix4 b h n d) = m ((c : Thread nD τ).loc main_arg5) (ix4 b n h d) := by
  unfold V; after_reads_at

theorem V_v38 (b : Fin 2) (h : Fin 4) (k : Fin 64) (e : Fin 64) (x : Fin 128) (n : Fin 8192) (hn : n.val = 128 * k.val + x.val) :
    V m c main_v38 (ix5 b h k e x) = m ((c : Thread nD τ).loc main_arg6) (ix4 b n h e) := by
  unfold V; after_reads_at
  exact congrArg (fun n => m ((c : Thread nD τ).loc main_arg6) (ix4 b n h e)) (Fin.ext (by show k.val * 128 + x.val = n.val; omega))

theorem V_v39 (b : Fin 2) (h : Fin 4) (p : Fin 16) (hp : p.val < 12) (t : Fin 8192) (g : Fin 4) (k : Fin 3) (e1 : ⟨p.val / 3, by omega⟩ = g)
    (e2 : ⟨p.val % 3, by omega⟩ = k) :
    V m c main_v39 (ix4 b h p t) = m ((c : Thread nD τ).loc main_arg7) (ix5 b t h g k) := by
  subst e1 e2
  unfold V; after_reads_at
  exact dif_pos hp

/-- The distance of the window's key `j` from query `r`, in the tile `k`. -/
theorem rel_word (k : Fin 2) (j : Fin 1024) (r : Fin 512) :
    (IntOp.subi (IntOp.subi (BitVec.ofNat 32 j.val) (BitVec.ofNat 32 r.val)) (IntOp.minsi (IntOp.muli (BitVec.ofNat 32 k.val) 512#32) 512#32)).toInt
      = (j.val : Int) - r.val - 512 * k.val := by
  have hj := j.isLt
  have hr := r.isLt
  have hk : (IntOp.minsi (IntOp.muli (BitVec.ofNat 32 k.val) 512#32) 512#32).toInt = 512 * (k.val : Int) :=
    (by decide : ∀ k : Fin 2, (IntOp.minsi (IntOp.muli (BitVec.ofNat 32 k.val) 512#32) 512#32).toInt = 512 * (k.val : Int)) k
  exact Ref.toInt_subi (Ref.toInt_subi (StableHlo.Predicate.toInt_ofNat_small _ (by omega)) (StableHlo.Predicate.toInt_ofNat_small _ (by omega))
    (by omega) (by omega)) hk (by omega) (by omega)

theorem V_v83 (k : Fin 2) (j : Fin 1024) (r : Fin 512) :
    V m c main_v83 (ix3 k j r) = if (j.val : Int) - r.val - 512 * k.val ≤ 0 ∧ -512 ≤ (j.val : Int) - r.val - 512 * k.val
      then (0 : EReal) else (⊥ : EReal) := by
  unfold V; after_reads_at
  show select _ _ _ _ = _
  pointwise
  rw [bits_ninf]
  refine select_if ?_ _ _
  rw [IntOp.andi_eq_one, IntOp.cmpi_sle, IntOp.cmpi_sge, rel_word]
  exact Iff.rfl

/-! ## The windows' blocks -/

theorem idx0 : ∀ t : Fin cfg0.N, win0_0.index t (0 : Fin 4) = (grid0.coords t 0).val ∧ win0_0.index t (1 : Fin 4) = (grid0.coords t 1).val ∧ win0_0.index t (2 : Fin 4) = 0 ∧ win0_0.index t (3 : Fin 4) = (grid0.coords t 2).val :=
  (by decide +kernel : ∀ t : Fin grid0.N, _)
theorem idx1 : ∀ t : Fin cfg0.N, win0_1.index t (0 : Fin 4) = (grid0.coords t 0).val ∧ win0_1.index t (1 : Fin 4) = (grid0.coords t 1).val ∧ win0_1.index t (2 : Fin 4) = 0 ∧ win0_1.index t (3 : Fin 4) = 0 :=
  (by decide +kernel : ∀ t : Fin grid0.N, _)
theorem idx2 : ∀ t : Fin cfg0.N, win0_2.index t (0 : Fin 4) = (grid0.coords t 0).val ∧ win0_2.index t (1 : Fin 4) = (grid0.coords t 1).val ∧ win0_2.index t (2 : Fin 4) = 0 ∧ win0_2.index t (3 : Fin 4) = 0 :=
  (by decide +kernel : ∀ t : Fin grid0.N, _)
theorem idx5 : ∀ t : Fin cfg0.N, win0_5.index t (0 : Fin 4) = (grid0.coords t 0).val ∧ win0_5.index t (1 : Fin 4) = (grid0.coords t 1).val ∧ win0_5.index t (2 : Fin 4) = 0 ∧ win0_5.index t (3 : Fin 4) = 0 :=
  (by decide +kernel : ∀ t : Fin grid0.N, _)
theorem idx6 : ∀ t : Fin cfg0.N, win0_6.index t (0 : Fin 5) = (grid0.coords t 0).val ∧ win0_6.index t (1 : Fin 5) = (grid0.coords t 1).val ∧ win0_6.index t (2 : Fin 5) = 0 ∧ win0_6.index t (3 : Fin 5) = 0 ∧ win0_6.index t (4 : Fin 5) = 0 :=
  (by decide +kernel : ∀ t : Fin grid0.N, _)
theorem idx7 : ∀ t : Fin cfg0.N, win0_7.index t (0 : Fin 4) = (grid0.coords t 0).val ∧ win0_7.index t (1 : Fin 4) = (grid0.coords t 1).val ∧ win0_7.index t (2 : Fin 4) = 0 ∧ win0_7.index t (3 : Fin 4) = (grid0.coords t 2).val :=
  (by decide +kernel : ∀ t : Fin grid0.N, _)
theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)
theorem idx11 : ∀ t : Fin cfg0.N, win0_11.index t (0 : Fin 3) = (grid0.coords t 0).val ∧ win0_11.index t (1 : Fin 3) = (grid0.coords t 2).val ∧ win0_11.index t (2 : Fin 3) = (grid0.coords t 1).val :=
  (by decide +kernel : ∀ t : Fin grid0.N, _)

theorem lt16 (h g : Fin 4) : 4 * h.val + g.val < 16 := by omega
theorem ltT (v : Fin 16) (r : Fin 512) : 512 * v.val + r.val < 8192 := by omega
theorem ltD (h : Fin 4) (d : Fin 256) : 256 * h.val + d.val < 1024 := by omega

variable (t : Fin cfg0.N) (b : Fin 2) (h : Fin 4) (v : Fin 16) (hb : grid0.coords t 0 = b) (hh : grid0.coords t 1 = h) (hv : grid0.coords t 2 = v)
include hb hh hv

theorem iblk0 (g : Fin 4) (d : Fin 64) (r : Fin 512) :
    iblk m c 0 t (ix4 0 g d r) = V m c main_v7 (ix4 b ⟨4 * h.val + g.val, lt16 h g⟩ d ⟨512 * v.val + r.val, ltT v r⟩) := by
  obtain ⟨e0, e1, e2, e3⟩ := idx0 t
  subst hb hh hv
  show V m c main_v7 (((cfg0.win 0).blk t).view.emb (ix4 0 g d r)) = _
  refine congrArg _ (funext fun a => Fin.ext ?_)
  match a with
  | ⟨0, _⟩ => show win0_0.index t (0 : Fin 4) * 1 + 1 * 0 = (grid0.coords t 0).val; omega
  | ⟨1, _⟩ => show win0_0.index t (1 : Fin 4) * 4 + 1 * g.val = 4 * (grid0.coords t 1).val + g.val; omega
  | ⟨2, _⟩ => show win0_0.index t (2 : Fin 4) * 64 + 1 * d.val = d.val; omega
  | ⟨3, _⟩ => show win0_0.index t (3 : Fin 4) * 512 + 1 * r.val = 512 * (grid0.coords t 2).val + r.val; omega

theorem iblk1 (n : Fin 512) (d : Fin 64) :
    iblk m c 1 t (ix4 0 0 n d) = V m c main_v9 (ix4 b h n d) := by
  obtain ⟨e0, e1, e2, e3⟩ := idx1 t
  subst hb hh hv
  show V m c main_v9 (((cfg0.win 1).blk t).view.emb (ix4 0 0 n d)) = _
  refine congrArg _ (funext fun a => Fin.ext ?_)
  match a with
  | ⟨0, _⟩ => show win0_1.index t (0 : Fin 4) * 1 + 1 * 0 = (grid0.coords t 0).val; omega
  | ⟨1, _⟩ => show win0_1.index t (1 : Fin 4) * 1 + 1 * 0 = (grid0.coords t 1).val; omega
  | ⟨2, _⟩ => show win0_1.index t (2 : Fin 4) * 512 + 1 * n.val = n.val; omega
  | ⟨3, _⟩ => show win0_1.index t (3 : Fin 4) * 64 + 1 * d.val = d.val; omega

theorem iblk2 (n : Fin 512) (d : Fin 64) :
    iblk m c 2 t (ix4 0 0 d n) = V m c main_v11 (ix4 b h d n) := by
  obtain ⟨e0, e1, e2, e3⟩ := idx2 t
  subst hb hh hv
  show V m c main_v11 (((cfg0.win 2).blk t).view.emb (ix4 0 0 d n)) = _
  refine congrArg _ (funext fun a => Fin.ext ?_)
  match a with
  | ⟨0, _⟩ => show win0_2.index t (0 : Fin 4) * 1 + 1 * 0 = (grid0.coords t 0).val; omega
  | ⟨1, _⟩ => show win0_2.index t (1 : Fin 4) * 1 + 1 * 0 = (grid0.coords t 1).val; omega
  | ⟨2, _⟩ => show win0_2.index t (2 : Fin 4) * 64 + 1 * d.val = d.val; omega
  | ⟨3, _⟩ => show win0_2.index t (3 : Fin 4) * 512 + 1 * n.val = n.val; omega

theorem iblk5 (n : Fin 8192) (d : Fin 64) :
    iblk m c 5 t (ix4 0 0 n d) = V m c main_v35 (ix4 b h n d) := by
  obtain ⟨e0, e1, e2, e3⟩ := idx5 t
  subst hb hh hv
  show V m c main_v35 (((cfg0.win 5).blk t).view.emb (ix4 0 0 n d)) = _
  refine congrArg _ (funext fun a => Fin.ext ?_)
  match a with
  | ⟨0, _⟩ => show win0_5.index t (0 : Fin 4) * 1 + 1 * 0 = (grid0.coords t 0).val; omega
  | ⟨1, _⟩ => show win0_5.index t (1 : Fin 4) * 1 + 1 * 0 = (grid0.coords t 1).val; omega
  | ⟨2, _⟩ => show win0_5.index t (2 : Fin 4) * 8192 + 1 * n.val = n.val; omega
  | ⟨3, _⟩ => show win0_5.index t (3 : Fin 4) * 64 + 1 * d.val = d.val; omega

theorem iblk6 (k e : Fin 64) (x : Fin 128) :
    iblk m c 6 t (ix5 0 0 k e x) = V m c main_v38 (ix5 b h k e x) := by
  obtain ⟨e0, e1, e2, e3, e4⟩ := idx6 t
  subst hb hh hv
  show V m c main_v38 (((cfg0.win 6).blk t).view.emb (ix5 0 0 k e x)) = _
  refine congrArg _ (funext fun a => Fin.ext ?_)
  match a with
  | ⟨0, _⟩ => show win0_6.index t (0 : Fin 5) * 1 + 1 * 0 = (grid0.coords t 0).val; omega
  | ⟨1, _⟩ => show win0_6.index t (1 : Fin 5) * 1 + 1 * 0 = (grid0.coords t 1).val; omega
  | ⟨2, _⟩ => show win0_6.index t (2 : Fin 5) * 64 + 1 * k.val = k.val; omega
  | ⟨3, _⟩ => show win0_6.index t (3 : Fin 5) * 64 + 1 * e.val = e.val; omega
  | ⟨4, _⟩ => show win0_6.index t (4 : Fin 5) * 128 + 1 * x.val = x.val; omega

theorem iblk7 (p : Fin 16) (r : Fin 512) :
    iblk m c 7 t (ix4 0 0 p r) = V m c main_v39 (ix4 b h p ⟨512 * v.val + r.val, ltT v r⟩) := by
  obtain ⟨e0, e1, e2, e3⟩ := idx7 t
  subst hb hh hv
  show V m c main_v39 (((cfg0.win 7).blk t).view.emb (ix4 0 0 p r)) = _
  refine congrArg _ (funext fun a => Fin.ext ?_)
  match a with
  | ⟨0, _⟩ => show win0_7.index t (0 : Fin 4) * 1 + 1 * 0 = (grid0.coords t 0).val; omega
  | ⟨1, _⟩ => show win0_7.index t (1 : Fin 4) * 1 + 1 * 0 = (grid0.coords t 1).val; omega
  | ⟨2, _⟩ => show win0_7.index t (2 : Fin 4) * 16 + 1 * p.val = p.val; omega
  | ⟨3, _⟩ => show win0_7.index t (3 : Fin 4) * 512 + 1 * r.val = 512 * (grid0.coords t 2).val + r.val; omega

omit hb hh hv in
theorem iblk9 (k : Fin 2) (j : Fin 1024) (r : Fin 512) :
    iblk m c 9 t (ix3 k j r) = V m c main_v83 (ix3 k j r) := by
  obtain ⟨e0, e1, e2⟩ := idx9 t
  show V m c main_v83 (((cfg0.win 9).blk t).view.emb (ix3 k j r)) = _
  refine congrArg _ (funext fun a => Fin.ext ?_)
  match a with
  | ⟨0, _⟩ => show win0_9.index t (0 : Fin 3) * 2 + 1 * k.val = k.val; omega
  | ⟨1, _⟩ => show win0_9.index t (1 : Fin 3) * 1024 + 1 * j.val = j.val; omega
  | ⟨2, _⟩ => show win0_9.index t (2 : Fin 3) * 512 + 1 * r.val = r.val; omega

theorem emb11 (r : Fin 512) (d : Fin 256) :
    ((cfg0.win 11).blk t).view.emb (ix3 0 r d) = ix3 b ⟨512 * v.val + r.val, ltT v r⟩ ⟨256 * h.val + d.val, ltD h d⟩ := by
  obtain ⟨e0, e1, e2⟩ := idx11 t
  subst hb hh hv
  refine funext fun a => Fin.ext ?_
  match a with
  | ⟨0, _⟩ => show win0_11.index t (0 : Fin 3) * 1 + 1 * 0 = (grid0.coords t 0).val; omega
  | ⟨1, _⟩ => show win0_11.index t (1 : Fin 3) * 512 + 1 * r.val = 512 * (grid0.coords t 2).val + r.val; omega
  | ⟨2, _⟩ => show win0_11.index t (2 : Fin 3) * 256 + 1 * d.val = 256 * (grid0.coords t 1).val + d.val; omega

end Cert.Proof.Nsa

end
-- ==== Proof.Nsa.Array.lean ====
/-
  THE ATTENTION KERNEL'S RESULT ARRAY, at the ideal instance: with real queries, compressed keys and window keys, and with the
  selected branch's gate shut, the result at a row, a position and a column is the gated sum of the compressed and the window
  branch (`attn`). Each grid point writes 512 positions of four heads (`point`); the points' blocks cover the array (`final`).
-/
module

public import proofs.«01_k».proof.Proof.Nsa.Operands

@[expose] public section

set_option maxRecDepth 4096

noncomputable section

namespace Cert.Proof.Nsa

open Idealize.ShloMosaic Idealize.ShloMosaic.TcCoe Idealize.SL.Sem Cert.KernelIdeal Cert.KernelIdeal.Gen Cert.Proof.Ideal

/-! ## The specification -/

/-- A branch: the values of the visible keys, weighted. -/
def branch {N : Nat} (vis : Fin N → Prop) [DecidablePred vis] (x : Fin 64 → ℝ) (a : Fin N → Fin 64 → ℝ) (v : Fin N → EReal) : EReal :=
  ∑ n, v n * Ideal.div (refExp vis (raw x a) n) (max (∑ k, refExp vis (raw x a) k) (Ideal.ofBits FTy.f32 228737632#32))

theorem branch_congr {N : Nat} {vis vis' : Fin N → Prop} [DecidablePred vis] [DecidablePred vis'] (h : ∀ n, vis n ↔ vis' n)
    (x : Fin 64 → ℝ) (a : Fin N → Fin 64 → ℝ) (v : Fin N → EReal) : branch vis x a v = branch vis' x a v := by
  obtain rfl : vis = vis' := funext fun n => propext (h n)
  congr

section
variable (q : FVec Ideal S2x8192x4x4x64 .f32) (kc vc : FVec Ideal S2x512x4x64 .f32) (kw vw : FVec Ideal S2x8192x4x64 .f32)
  (gt : FVec Ideal S2x8192x4x4x3 .f32)

/-- Component `e` of head `(h, g)` at position `T` of row `b`. -/
def attnAt (b : Fin 2) (T : Fin 8192) (h g : Fin 4) (e : Fin 64) : EReal :=
  Ideal.logistic (gt (ix5 b T h g 0)) * branch (fun n : Fin 512 => 16 * n.val + 31 ≤ T.val)
      (fun d => (show EReal from q (ix5 b T h g d)).toReal) (fun n d => (show EReal from kc (ix4 b n h d)).toReal) (fun n => vc (ix4 b n h e))
    + Ideal.logistic (gt (ix5 b T h g 2)) * branch (fun n : Fin 8192 => n.val ≤ T.val ∧ T.val ≤ n.val + 512)
      (fun d => (show EReal from q (ix5 b T h g d)).toReal) (fun n d => (show EReal from kw (ix4 b n h d)).toReal) (fun n => vw (ix4 b n h e))

/-- The result array. -/
def attn : FVec Ideal S2x8192x1024 .bf16 := fun j =>
  attnAt q kc vc kw vw gt (j 0) (j 1) ⟨(j 2).val / 256, by have : (j 2).val < 1024 := (j 2).isLt; omega⟩
    ⟨(j 2).val / 64 % 4, by omega⟩ ⟨(j 2).val % 64, by omega⟩

theorem attn_apply (b : Fin 2) (T : Fin 8192) (h g : Fin 4) (e : Fin 64) (D : Fin 1024) (hD : D.val = 256 * h.val + 64 * g.val + e.val) :
    attn q kc vc kw vw gt (ix3 b T D) = attnAt q kc vc kw vw gt b T h g e := by
  have e1 : ∀ p, (⟨D.val / 256, p⟩ : Fin 4) = h := fun p => Fin.ext (by show D.val / 256 = h.val; omega)
  have e2 : ∀ p, (⟨D.val / 64 % 4, p⟩ : Fin 4) = g := fun p => Fin.ext (by show D.val / 64 % 4 = g.val; omega)
  have e3 : ∀ p, (⟨D.val % 64, p⟩ : Fin 64) = e := fun p => Fin.ext (by show D.val % 64 = e.val; omega)
  exact congr (congrArg₂ (attnAt q kc vc kw vw gt b T) (e1 _) (e2 _)) (e3 _)

/-- What the claim asks of the arguments. -/
structure Closed : Prop where
  q : ∀ y, ((show EReal from q y).toReal : EReal) = q y
  kc : ∀ y, ((show EReal from kc y).toReal : EReal) = kc y
  kw : ∀ y, ((show EReal from kw y).toReal : EReal) = kw y
  gate : ∀ b T h g, gt (ix5 b T h g 1) = (⊥ : EReal)
end

variable (m : (ℓ : Loc nD τ sig) → Buf (Elt Ideal) ℓ) (c : Dev nD)

/-- The result array of the launch's arguments. -/
def attnOf : FVec Ideal S2x8192x1024 .bf16 :=
  attn (m ((c : Thread nD τ).loc main_arg0)) (m ((c : Thread nD τ).loc main_arg1)) (m ((c : Thread nD τ).loc main_arg2))
    (m ((c : Thread nD τ).loc main_arg5)) (m ((c : Thread nD τ).loc main_arg6)) (m ((c : Thread nD τ).loc main_arg7))

/-! ## One grid point -/

theorem out_eq (i : grid0.Coords) (X : Ins Ideal) : out i X = blockOut i X := by
  unfold out
  exact View.canon_cons_unit_lit _ _ _ (by decide)

theorem head_div (h g : Fin 4) (p : (4 * h.val + g.val) / 4 < 4) : (⟨(4 * h.val + g.val) / 4, p⟩ : Fin 4) = h :=
  Fin.ext (by show (4 * h.val + g.val) / 4 = h.val; omega)

theorem head_mod (h g : Fin 4) (p : (4 * h.val + g.val) % 4 < 4) : (⟨(4 * h.val + g.val) % 4, p⟩ : Fin 4) = g :=
  Fin.ext (by show (4 * h.val + g.val) % 4 = g.val; omega)

theorem hd_col (g : Fin 4) (r : Fin 512) : hd (col g r) = g := Fin.ext (by show (512 * g.val + r.val) / 512 = g.val; omega)

theorem qr_col (g : Fin 4) (r : Fin 512) : qr (col g r) = r := Fin.ext (by show (512 * g.val + r.val) % 512 = r.val; omega)

theorem ocmp_branch (i : grid0.Coords) (X : Ins Ideal) (v : Fin 16) (hv : (i 2).val = v.val) (g : Fin 4) (r : Fin 512) (e : Fin 64)
    (x : Fin 64 → ℝ) (a : Fin 512 → Fin 64 → ℝ) (V : Fin 512 → EReal) (hq : ∀ d, X.q (ix4 0 g d r) = (x d : EReal) * (lam : EReal))
    (ha : ∀ n d, X.kc (ix4 0 0 n d) = (a n d : EReal)) (hV : ∀ n, X.vc (ix4 0 0 e n) = V n) :
    ocmp i X (ix2 e (col g r)) = branch (fun n : Fin 512 => 16 * n.val + 31 ≤ 512 * v.val + r.val) x a V := by
  rw [ocmp_real i X x a (col g r) (by rw [hd_col, qr_col]; exact hq) ha e]
  simp only [hV]
  refine branch_congr (fun n => ?_) x a V
  have hr := r.isLt
  show 16 * n.val + 31 ≤ 512 * (i 2).val + (512 * g.val + r.val) % 512 ↔ _
  rw [hv]
  omega

theorem owin_branch (i : grid0.Coords) (X : Ins Ideal) (v : Fin 16) (hv : (i 2).val = v.val) (g : Fin 4) (r : Fin 512) (e : Fin 64)
    (x : Fin 64 → ℝ) (a : Fin 8192 → Fin 64 → ℝ) (V : Fin 8192 → EReal) (hq : ∀ d, X.q (ix4 0 g d r) = (x d : EReal) * (lam : EReal))
    (ha : ∀ n d, X.kw (ix4 0 0 n d) = (a n d : EReal)) (hV : ∀ n, vwAt X e n = V n)
    (hw : ∀ (k : Fin 2) (j : Fin 1024), X.wm (ix3 k j r)
      = if (j.val : Int) - r.val - 512 * k.val ≤ 0 ∧ -512 ≤ (j.val : Int) - r.val - 512 * k.val then (0 : EReal) else ⊥) :
    owin i X (ix2 e (col g r)) = branch (fun n : Fin 8192 => n.val ≤ 512 * v.val + r.val ∧ 512 * v.val + r.val ≤ n.val + 512) x a V := by
  have hr := r.isLt
  rw [owin_real i X x a (col g r) (by rw [hd_col, qr_col]; exact hq) ha (fun j => ?_) e]
  · simp only [hV]
    refine branch_congr (fun n => ?_) x a V
    show n.val ≤ 512 * (i 2).val + (512 * g.val + r.val) % 512 ∧ 512 * (i 2).val + (512 * g.val + r.val) % 512 ≤ n.val + 512 ↔ _
    rw [hv]
    omega
  · rw [qr_col, hw]
    refine if_congr ?_ rfl rfl
    have hw := w0_eq i
    show (j.val : Int) - r.val - 512 * ((min (i 2).val 1 : Nat) : Int) ≤ 0 ∧ -512 ≤ (j.val : Int) - r.val - 512 * ((min (i 2).val 1 : Nat) : Int)
      ↔ (wk i j).val ≤ 512 * (i 2).val + (512 * g.val + r.val) % 512 ∧ 512 * (i 2).val + (512 * g.val + r.val) % 512 ≤ (wk i j).val + 512
    rw [wk_val]
    omega

section
variable (hc : Closed (m ((c : Thread nD τ).loc main_arg0)) (m ((c : Thread nD τ).loc main_arg1))
    (m ((c : Thread nD τ).loc main_arg5)) (m ((c : Thread nD τ).loc main_arg7)))
  (t : Fin cfg0.N) (b : Fin 2) (h : Fin 4) (v : Fin 16) (hb : grid0.coords t 0 = b) (hh : grid0.coords t 1 = h) (hv : grid0.coords t 2 = v)
include hc hb hh hv

theorem q_point (g : Fin 4) (r : Fin 512) (d : Fin 64) : (insAt m c t).q (ix4 0 g d r)
    = (((show EReal from m ((c : Thread nD τ).loc main_arg0) (ix5 b ⟨512 * v.val + r.val, ltT v r⟩ h g d)).toReal : ℝ) : EReal) * (lam : EReal) := by
  refine (iblk0 m c t b h v hb hh hv g d r).trans ((V_v7 m c _ _ _ _).trans ?_)
  rw [hc.q]
  exact congrArg₂ (fun x y => (show EReal from m ((c : Thread nD τ).loc main_arg0) (ix5 b ⟨512 * v.val + r.val, ltT v r⟩ x y d)) * (lam : EReal))
    (head_div h g _) (head_mod h g _)

theorem gate_point (g : Fin 4) (k : Fin 3) (r : Fin 512) (p : Fin 16) (hp : p.val = 3 * g.val + k.val) : (insAt m c t).gt (ix4 0 0 p r)
    = m ((c : Thread nD τ).loc main_arg7) (ix5 b ⟨512 * v.val + r.val, ltT v r⟩ h g k) := by
  have hg : g.val < 4 := g.isLt
  have hk : k.val < 3 := k.isLt
  refine (iblk7 m c t b h v hb hh hv p r).trans (V_v39 m c b h p (by omega) _ g k (Fin.ext ?_) (Fin.ext ?_))
  · show p.val / 3 = g.val; omega
  · show p.val % 3 = k.val; omega

theorem ocmp_point (g : Fin 4) (r : Fin 512) (e : Fin 64) : ocmp (grid0.coords t) (insAt m c t) (ix2 e (col g r))
    = branch (fun n : Fin 512 => 16 * n.val + 31 ≤ 512 * v.val + r.val)
      (fun d => (show EReal from m ((c : Thread nD τ).loc main_arg0) (ix5 b ⟨512 * v.val + r.val, ltT v r⟩ h g d)).toReal)
      (fun n d => (show EReal from m ((c : Thread nD τ).loc main_arg1) (ix4 b n h d)).toReal)
      (fun n => m ((c : Thread nD τ).loc main_arg2) (ix4 b n h e)) :=
  ocmp_branch (grid0.coords t) (insAt m c t) v (congrArg Fin.val hv) g r e _ _ _ (q_point m c hc t b h v hb hh hv g r)
    (fun n d => (iblk1 m c t b h v hb hh hv n d).trans ((V_v9 m c b h n d).trans (hc.kc _).symm))
    (fun n => (iblk2 m c t b h v hb hh hv n e).trans (V_v11 m c b h n e))

theorem kw_point (n : Fin 8192) (d : Fin 64) : (insAt m c t).kw (ix4 0 0 n d)
    = (((show EReal from m ((c : Thread nD τ).loc main_arg5) (ix4 b n h d)).toReal : ℝ) : EReal) := by
  rw [hc.kw]
  exact (iblk5 m c t b h v hb hh hv n d).trans (V_v35 m c b h n d)

omit hc in
theorem vw_point (e : Fin 64) (n : Fin 8192) : vwAt (insAt m c t) e n = m ((c : Thread nD τ).loc main_arg6) (ix4 b n h e) := by
  unfold vwAt
  exact (iblk6 m c t b h v hb hh hv _ e _).trans (V_v38 m c b h _ e _ n (Nat.div_add_mod n.val 128).symm)

omit hc hb hh hv in
theorem wm_point (r : Fin 512) (k : Fin 2) (j : Fin 1024) : (insAt m c t).wm (ix3 k j r)
    = if (j.val : Int) - r.val - 512 * k.val ≤ 0 ∧ -512 ≤ (j.val : Int) - r.val - 512 * k.val then (0 : EReal) else ⊥ :=
  (iblk9 m c t k j r).trans (V_v83 m c k j r)

theorem owin_point (g : Fin 4) (r : Fin 512) (e : Fin 64) : owin (grid0.coords t) (insAt m c t) (ix2 e (col g r))
    = branch (fun n : Fin 8192 => n.val ≤ 512 * v.val + r.val ∧ 512 * v.val + r.val ≤ n.val + 512)
      (fun d => (show EReal from m ((c : Thread nD τ).loc main_arg0) (ix5 b ⟨512 * v.val + r.val, ltT v r⟩ h g d)).toReal)
      (fun n d => (show EReal from m ((c : Thread nD τ).loc main_arg5) (ix4 b n h d)).toReal)
      (fun n => m ((c : Thread nD τ).loc main_arg6) (ix4 b n h e)) :=
  owin_branch (grid0.coords t) (insAt m c t) v (congrArg Fin.val hv) g r e _ _ _ (q_point m c hc t b h v hb hh hv g r)
    (kw_point m c hc t b h v hb hh hv) (vw_point m c t b h v hb hh hv e) (wm_point m c t r)

/-- What the point writes, where it writes it. -/
theorem point (r : Fin 512) (d : Fin 256) : out (grid0.coords t) (insAt m c t) (ix3 0 r d)
    = attnOf m c (ix3 b ⟨512 * v.val + r.val, ltT v r⟩ ⟨256 * h.val + d.val, ltD h d⟩) := by
  have hd := d.isLt
  rw [out_eq, blockOut_apply (grid0.coords t) (insAt m c t) r d ⟨d.val / 64, by omega⟩ ⟨d.val % 64, by omega⟩
    (by show d.val = 64 * (d.val / 64) + d.val % 64; omega) _ _ _
    (gate_point m c hc t b h v hb hh hv ⟨d.val / 64, by omega⟩ 0 r _ rfl) (gate_point m c hc t b h v hb hh hv ⟨d.val / 64, by omega⟩ 1 r _ rfl)
    (gate_point m c hc t b h v hb hh hv ⟨d.val / 64, by omega⟩ 2 r _ rfl),
    ocmp_point m c hc t b h v hb hh hv, owin_point m c hc t b h v hb hh hv, hc.gate, Ideal.logistic_bot, zero_mul, add_zero]
  exact (attn_apply _ _ _ _ _ _ b _ h ⟨d.val / 64, by omega⟩ ⟨d.val % 64, by omega⟩ _
    (by show 256 * h.val + d.val = 256 * h.val + 64 * (d.val / 64) + d.val % 64; omega)).symm
end

/-! ## The array after the run -/

theorem coords_val : ∀ (b : Fin 2) (h : Fin 4) (v : Fin 16), ∃ t : Fin grid0.N,
    (grid0.coords t 0).val = b.val ∧ (grid0.coords t 1).val = h.val ∧ (grid0.coords t 2).val = v.val := by decide +kernel

theorem coords_onto (b : Fin 2) (h : Fin 4) (v : Fin 16) : ∃ t : Fin cfg0.N, grid0.coords t 0 = b ∧ grid0.coords t 1 = h ∧ grid0.coords t 2 = v := by
  obtain ⟨t, hb, hh, hv⟩ := coords_val b h v
  exact ⟨t, Fin.ext hb, Fin.ext hh, Fin.ext hv⟩

theorem cover11 (i : S2x8192x1024.Idx) : ∃ t : Fin cfg0.N, (cfg0.win 11).flush t = true ∧ i ∈ ((cfg0.win 11).blk t).view.set := by
  obtain ⟨b, T, D, rfl⟩ : ∃ (b : Fin 2) (T : Fin 8192) (D : Fin 1024), i = ix3 b T D := ⟨i 0, i 1, i 2, eq_ix3 i⟩
  obtain ⟨t, hb, hh, hv⟩ := coords_onto b ⟨D.val / 256, by omega⟩ ⟨T.val / 512, by omega⟩
  refine ⟨t, flush0_11 t, ?_⟩
  have h := ((cfg0.win 11).blk t).view.emb_mem_set (ix3 (0 : Fin 1) (⟨T.val % 512, by omega⟩ : Fin 512) (⟨D.val % 256, by omega⟩ : Fin 256))
  have e : ((cfg0.win 11).blk t).view.emb (ix3 (0 : Fin 1) (⟨T.val % 512, by omega⟩ : Fin 512) (⟨D.val % 256, by omega⟩ : Fin 256)) = ix3 b T D :=
    (emb11 t b _ _ hb hh hv _ _).trans (congrArg₂ (ix3 b) (Fin.ext (Nat.div_add_mod T.val 512)) (Fin.ext (Nat.div_add_mod D.val 256)))
  exact e ▸ h

/-- The result array. -/
theorem final (hc : Closed (m ((c : Thread nD τ).loc main_arg0)) (m ((c : Thread nD τ).loc main_arg1))
    (m ((c : Thread nD τ).loc main_arg5)) (m ((c : Thread nD τ).loc main_arg7))) : (dats m 0 c).arrAt 11 cfg0.N = attnOf m c := by
  refine (dats m 0 c).arrAt_eq_of_cover 11 _ (fun t _ => ?_) fun i => ?_
  · show (cfg0.win 11).cut (grid0.coords t) ((dats m 0 c).after 11 t) = _
    rw [after0_11]
    funext y
    obtain ⟨z, r, d, rfl⟩ : ∃ (z : Fin 1) (r : Fin 512) (d : Fin 256), y = ix3 z r d := ⟨y 0, y 1, y 2, eq_ix3 y⟩
    obtain rfl : z = 0 := Subsingleton.elim _ _
    show out (grid0.coords t) (insAt m c t) (ix3 0 r d) = attnOf m c (((cfg0.win 11).blk t).view.emb (ix3 0 r d))
    rw [emb11 t _ _ _ rfl rfl rfl]
    exact point m c hc t _ _ _ rfl rfl rfl r d
  · exact cover11 i

end Cert.Proof.Nsa

end
-- ==== Proof.Nsa.Pre.lean ====
/-
  THE ATTENTION CLAIM'S PRECONDITION, read at the ideal instance: queries, compressed keys and window keys are real
  numbers, and the selected branch's gate is `-inf`.
-/
module

public import proofs.«01_k».proof.Defs
public import proofs.«01_k».proof.Proof.Nsa.Array
public import Idealize.ShloMosaic.Lib.ReduceAll

@[expose] public section

set_option maxRecDepth 4096

noncomputable section

namespace Cert.Proof.Nsa

open Idealize.ShloMosaic Idealize.ShloMosaic.TcCoe Idealize.SL.Sem

instance : Subsingleton Cert.Pre_closed.S_.Idx := ⟨fun _ _ => funext fun d => d.elim0⟩

theorem inf_word : (Ideal.ofBits FTy.f32 0x7F800000#32 : EReal) = ⊤ := by decide +kernel

theorem ninf_word : (Ideal.ofBits FTy.f32 0xFF800000#32 : EReal) = ⊥ := by decide +kernel

/-- A number whose absolute value is below `+inf` is real. -/
theorem real_of_lt {x : EReal} (h : max x (-x) < ⊤) : (x.toReal : EReal) = x := by
  refine EReal.coe_toReal ?_ ?_
  · rintro rfl; simp at h
  · rintro rfl; simp at h

section
variable [Cert.Pre_closed.Facts]

theorem closed_of (a0 : FVec Ideal Cert.KernelIdeal.S2x8192x4x4x64 .f32) (a1 a2 : FVec Ideal Cert.KernelIdeal.S2x512x4x64 .f32)
    (a3 a4 a5 a6 : FVec Ideal Cert.KernelIdeal.S2x8192x4x64 .f32) (a7 : FVec Ideal Cert.KernelIdeal.S2x8192x4x4x3 .f32)
    (h : Cert.Pre_closed.fn (F := Ideal) a0 a1 a2 a3 a4 a5 a6 a7 = fun _ => 1#1) : Closed a0 a1 a5 a7 := by
  have e := congrFun h (fun d => d.elim0)
  simp only [Cert.Pre_closed.fn, Cert.Pre_closed.fn_part1] at e
  obtain ⟨e, eg⟩ := IntOp.andi_eq_one.1 e
  obtain ⟨e, ew⟩ := IntOp.andi_eq_one.1 e
  obtain ⟨eq, ec⟩ := IntOp.andi_eq_one.1 e
  have ofBool : ∀ b : Bool, BitVec.ofBool b = 1#1 → b = true := by decide
  have real : ∀ x : EReal, BitVec.ofBool (decide (max x (-x) < Ideal.ofBits FTy.f32 0x7F800000#32)) = 1#1 → (x.toReal : EReal) = x := by
    intro x hx
    rw [inf_word] at hx
    exact real_of_lt (of_decide_eq_true (ofBool _ hx))
  refine ⟨fun y => ?_, fun y => ?_, fun y => ?_, fun b T h g => ?_⟩
  · exact real _ (Host.reduce_andi_all _ _ _ _ _ eq y)
  · exact real _ (Host.reduce_andi_all _ _ _ _ _ ec y)
  · exact real _ (Host.reduce_andi_all _ _ _ _ _ ew y)
  · have hx := Host.reduce_andi_all _ _ _ _ _ eg (ix4 b T h g)
    have : BitVec.ofBool (decide ((show EReal from a7 (ix5 b T h g 1)) = Ideal.ofBits FTy.f32 0xFF800000#32)) = 1#1 := by
      rw [← hx]
      pointwise
    rw [ninf_word] at this
    exact of_decide_eq_true (ofBool _ this)
end

end Cert.Proof.Nsa

end
-- ==== Proof.Nsa.Equal.lean ====
/-
  THE ATTENTION KERNEL COMPUTES ITS REFERENCE, at the ideal instance and under the claim's precondition: the reference's
  composed term is the same gated sum of the compressed and the window branch (`ref_eq`), so from equal arguments the two
  runs end with equal results (`algebraic`).
-/
module

public import proofs.«01_k».proof.Defs
public import proofs.«01_k».proof.Proof.Nsa.Pre
public import proofs.«01_k».proof.Proof.Nsa.Ref
public import proofs.«01_k».proof.Proof.Gen.Pre_closed
public import proofs.«01_k».proof.Proof.Gen.ReferenceIdeal
public import proofs.«01_k».proof.Proof.Gen.ReferenceIdeal.Run

@[expose] public section

set_option maxRecDepth 4096

noncomputable section

namespace Cert.Proof.Nsa

open Idealize.ShloMosaic Idealize.ShloMosaic.TcCoe Idealize.SL.Sem

/-- The reference's term of arguments the claim admits is the specification. -/
theorem ref_eq (a0 : FVec Ideal Cert.KernelIdeal.S2x8192x4x4x64 .f32) (a1 a2 : FVec Ideal Cert.KernelIdeal.S2x512x4x64 .f32)
    (a5 a6 : FVec Ideal Cert.KernelIdeal.S2x8192x4x64 .f32) (a7 : FVec Ideal Cert.KernelIdeal.S2x8192x4x4x3 .f32) (hc : Closed a0 a1 a5 a7) :
    Ref.res (Ref.gate a7) (Ref.oC (Ref.eC Ref.mC (Ref.xC Ref.mC (Ref.sC a0 a1)) (Ref.fC (Ref.xC Ref.mC (Ref.sC a0 a1)))) a2)
      (Ref.oW (Ref.eW Ref.mW (Ref.xW Ref.mW (Ref.sW a0 a5)) (Ref.fW (Ref.xW Ref.mW (Ref.sW a0 a5)))) a6) = attn a0 a1 a2 a5 a6 a7 := by
  funext j
  obtain ⟨b, T, D, rfl⟩ : ∃ (b : Fin 2) (T : Fin 8192) (D : Fin 1024), j = ix3 b T D := ⟨j 0, j 1, j 2, eq_ix3 j⟩
  have hD : D.val = 256 * (D.val / 256) + 64 * (D.val / 64 % 4) + D.val % 64 := by omega
  rw [Ref.res_apply _ _ _ b T D ⟨D.val / 256, by omega⟩ ⟨D.val / 64 % 4, by omega⟩ ⟨D.val % 64, by omega⟩ hD,
    attn_apply a0 a1 a2 a5 a6 a7 b T ⟨D.val / 256, by omega⟩ ⟨D.val / 64 % 4, by omega⟩ ⟨D.val % 64, by omega⟩ D hD,
    Ref.gate_apply, Ref.gate_apply,
    Ref.branchC a0 a1 a2 b T _ _ _ _ _ (fun d => (hc.q _).symm) (fun n d => (hc.kc _).symm),
    Ref.branchW a0 a5 a6 b T _ _ _ _ _ (fun d => (hc.q _).symm) (fun n d => (hc.kw _).symm)]
  rfl

/-- `Cert.algebraic_KernelIdeal_ReferenceIdeal_pre_closed`: both run, and from equal arguments the results are equal. -/
theorem algebraic : Cert.algebraic_KernelIdeal_ReferenceIdeal_pre_closed (hKernelIdeal := Cert.KernelIdeal.Gen.facts)
    (hReferenceIdeal := Cert.ReferenceIdeal.Gen.facts) (hPre_closed := Cert.Pre_closed.Gen.facts) := by
  intro m g m' g' hpre hargs
  letI := Cert.Pre_closed.Gen.facts
  have hc := fun c => closed_of _ _ _ _ _ _ _ _ (hpre c)
  refine ⟨fun c => attnOf m c, (θ_run (Cert.KernelIdeal.defs (F := Ideal)) _ _).mono
      (fun r h c => ⟨((h.2 c).1 11).trans (final m c (hc c)), h.1.1 c⟩)
      (θ_run_and (Cert.Proof.Ideal.frame (F := Ideal) m g) (Cert.Proof.Ideal.run_main (F := Ideal) m g)), ?_⟩
  refine (θ_run (Cert.ReferenceIdeal.defs (F := Ideal)) _ _).mono (fun r h c => ?_)
    (Cert.ReferenceIdeal.Value.run (F := Ideal) m' g')
  refine ⟨(h c).1.trans ?_, (h c).2⟩
  obtain ⟨h0, h1, h2, h3, h4, h5, h6, h7⟩ := hargs c
  refine (Ref.res_eq m' c).trans ?_
  rw [h0, h1, h2, h5, h6, h7]
  exact ref_eq _ _ _ _ _ _ (hc c)

end Cert.Proof.Nsa

end
-- ==== Proof.lean ====
/-
  The proof of `Cert.Claim`. The attention kernel's run is in `Proof/Ideal` and `Proof/Bits` (the same text at the two
  programs): `Vals` says what one grid point computes, `Loop` and `Body` that the body computes it, `Run` that the whole
  program runs, leaves its arguments alone and ends with every semaphore at zero. The feed-forward kernel's value is in
  `Proof/Ffn`: `Block` is one block at an index, `Array` the result array, `Equal` the equation with the reference. The
  attention kernel's value is in `Proof/Nsa`: `Soft` is the softmax over reals, `Block` and `Window` the two branches of one
  grid point, `Operands` the blocks it reads, `Array` the result array, `Ref` the reference at an index, `Pre` the
  precondition, `Equal` the equation.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.KernelFfn
public import proofs.«01_k».proof.Proof.Gen.KernelFfn.Frame
public import proofs.«01_k».proof.Proof.Gen.KernelFfnIdeal
public import proofs.«01_k».proof.Proof.Gen.KernelFfnIdeal.Frame
public import proofs.«01_k».proof.Proof.Gen.KernelFfnIdeal.Value
public import proofs.«01_k».proof.Proof.Gen.ReferenceFfnIdeal
public import proofs.«01_k».proof.Proof.Gen.ReferenceFfnIdeal.Run
public import proofs.«01_k».proof.Proof.Bits.Run
public import proofs.«01_k».proof.Proof.Ideal.Run
public import proofs.«01_k».proof.Proof.Ffn.Equal
public import proofs.«01_k».proof.Proof.Gen.Pre_closed
public import proofs.«01_k».proof.Proof.Nsa.Equal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The attention reference runs, its arguments unchanged and every semaphore counter at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run m ρ)

theorem claim : Cert.Claim := ⟨Cert.Kernel.Gen.facts, Cert.KernelIdeal.Gen.facts, Cert.ReferenceIdeal.Gen.facts,
  Cert.KernelFfn.Gen.facts, Cert.KernelFfnIdeal.Gen.facts, Cert.ReferenceFfnIdeal.Gen.facts, Cert.Pre_closed.Gen.facts,
  fun m ρ _ => Cert.Proof.Bits.frame m ρ,
  fun m ρ _ => Cert.Proof.Ideal.frame m ρ,
  fun m ρ _ => Cert.Proof.Ideal.frame m ρ,
  reference_frame,
  fun m ρ _ => reference_frame m ρ trivial,
  fun m ρ _ => Cert.KernelFfn.Gen.frame m ρ,
  fun m ρ _ => Cert.KernelFfnIdeal.Gen.frame m ρ,
  fun m ρ _ => (θ_run Cert.ReferenceFfnIdeal.defs _ _).mono
    (fun r h => ⟨fun c => (h c).2, sem_eq_zero_of_no_sems (by decide) r.2⟩) (Cert.ReferenceFfnIdeal.Value.run m ρ),
  ⟨IdealRules.named_const.statement Cert.KernelIdeal.κ "mask" .f32 0xCE6E6B28#32 ⊥ rfl,
   IdealRules.named_const.statement Cert.KernelIdeal.κ "start" .f32 0xF149F2CA#32 ⊥ rfl⟩,
  Cert.Proof.Nsa.algebraic,
  trivial,
  Cert.Proof.Ffn.algebraic⟩

end Cert.Proof

end
